-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "nll_w" .f32 0x3F666666#32 ((9 / 10 : ℝ) : EReal)
  ∧ IdealRules.named_const.Statement Cert.KernelIdeal.κ "smooth_w" .f32 0x3DCCCCCD#32 ((1 / 10 : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S1024x100000 : Shape := ⟨2, ![1024, 100000]⟩
abbrev S1024 : Shape := ⟨1, ![1024]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x100000 .f32) (main_arg1 : IVec S1024 32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_c_0 : IVec S_ 32 := constantI S_ 32 0#32
  let main_v4 : IVec S1024 32 := broadcastInDim S1024 ![] bcast_S_S1024 main_c_0
  let main_v5 : IVec S1024 1 := cmpi .sge main_arg1 main_v4
  let main_c_1 : IVec S_ 32 := constantI S_ 32 100000#32
  let main_v6 : IVec S1024 32 := broadcastInDim S1024 ![] bcast_S_S1024 main_c_1
  let main_v7 : IVec S1024 1 := cmpi .slt main_arg1 main_v6
  let main_v8 : IVec S1024 1 := andi main_v5 main_v7
  let main_c_2 : IVec S_ 1 := constantI S_ 1 1#1
  let main_v9 : IVec S_ 1 := (fun x v => Host.reduce IntOp.andi x v reducesTo_S1024_S_d0 h_S_) main_v8 main_c_2
  let main_v10 : IVec S_ 1 := andi main_v3 main_v9
  main_v10
-- ==== Kernel.lean ====
abbrev S1024x100000 : Shape := ⟨2, ![1024, 100000]⟩
abbrev S1024 : Shape := ⟨1, ![1024]⟩
abbrev S1024x1 : Shape := ⟨2, ![1024, 1]⟩
abbrev S1x1024 : Shape := ⟨2, ![1, 1024]⟩
abbrev S1x1 : Shape := ⟨2, ![1, 1]⟩
abbrev S_ : Shape := ⟨0, ![]⟩
abbrev S1024x4096 : Shape := ⟨2, ![1024, 4096]⟩
abbrev S1024x1024 : Shape := ⟨2, ![1024, 1024]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 7
  | .vmem => 10
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024x1, .i32⟩
  | .hbm, ⟨3, _⟩ => ⟨S1024x1, .f32⟩
  | .hbm, ⟨4, _⟩ => ⟨S1x1024, .f32⟩
  | .hbm, ⟨5, _⟩ => ⟨S1x1, .f32⟩
  | .hbm, ⟨6, _⟩ => ⟨S_, .f32⟩
  | .local _ .vmem, ⟨0, _⟩ => ⟨S1024x4096, .f32⟩
  | .local _ .vmem, ⟨1, _⟩ => ⟨S1024x4096, .f32⟩
  | .local _ .vmem, ⟨2, _⟩ => ⟨S1024x1, .i32⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1x1024, .f32⟩
  | .local _ .vmem, ⟨8, _⟩ => ⟨S1024x1, .f32⟩
  | .local _ .vmem, ⟨9, _⟩ => ⟨S1x1, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem2_0 : DmaSem sig := 6

abbrev nD : Nat := 1
abbrev τ : Topo := Topo.v7x

variable {F : FTy → Type} [FloatOps F]

abbrev grid0 : Pipeline.Grid := ⟨1, ![25], ![false]⟩

def k0_cond3 (i : grid0.Coords) : BitVec 1 :=
  let arg0 : BitVec 32 := BitVec.ofNat 32 (i 0).val
  let c24_i32_2 : BitVec 32 := 24#32
  let v7 : BitVec 1 := Scalar.cmpi .eq arg0 c24_i32_2
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := .none

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== KernelIdeal.lean ====
variable {F : FTy → Type} [FloatOps F] [Named F]
def κ : String → Option EReal := fun
  | "nll_w" => some ((9 / 10 : ℝ) : EReal)
  | "smooth_w" => some ((1 / 10 : ℝ) : EReal)
  | _ => none
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S512 : Shape := ⟨1, ![512]⟩
abbrev S512x1 : Shape := ⟨2, ![512, 1]⟩

abbrev nBuf : Space → Nat
  | .hbm => 78
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024x1, .f32⟩
  | .hbm, ⟨11, _⟩ => ⟨S1024x100000, .f32⟩
  | .hbm, ⟨12, _⟩ => ⟨S1024x100000, .f32⟩
  | .hbm, ⟨13, _⟩ => ⟨S1024x100000, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x1, .f32⟩
  | .hbm, ⟨18, _⟩ => ⟨S1024x100000, .f32⟩
  | .hbm, ⟨19, _⟩ => ⟨S1024x100000, .f32⟩
  | .hbm, ⟨20, _⟩ => ⟨S1024x1, .i32⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S_, .i32⟩
  | .hbm, ⟨25, _⟩ => ⟨S1024x1, .i32⟩
  | .hbm, ⟨26, _⟩ => ⟨S1024x1, .i32⟩
  | .hbm, ⟨27, _⟩ => ⟨S1024x1, .i32⟩
  | .hbm, ⟨28, _⟩ => ⟨S1024x1x1, .i32⟩
  | .hbm, ⟨29, _⟩ => ⟨S1, .i32⟩
  | .hbm, ⟨30, _⟩ => ⟨S_, .i32⟩
  | .hbm, ⟨31, _⟩ => ⟨S1024x1x1, .i32⟩
  | .hbm, ⟨32, _⟩ => ⟨S1024x1x1, .i1⟩
  | .hbm, ⟨33, _⟩ => ⟨S1x1x1, .i32⟩
  | .hbm, ⟨34, _⟩ => ⟨S1024x1x1, .i32⟩
  | .hbm, ⟨35, _⟩ => ⟨S1024x1x1, .i1⟩
  | .hbm, ⟨36, _⟩ => ⟨S1024x1x1, .i1⟩
  | .hbm, ⟨37, _⟩ => ⟨S_, .i1⟩
  | .hbm, ⟨38, _⟩ => ⟨S1024x1, .i1⟩
  | .hbm, ⟨39, _⟩ => ⟨S1024x1, .f32⟩
  | .hbm, ⟨40, _⟩ => ⟨S_, .f32⟩
  | .hbm, ⟨41, _⟩ => ⟨S1024x1, .f32⟩
  | .hbm, ⟨42, _⟩ => ⟨S1024x1, .f32⟩
  | .hbm, ⟨43, _⟩ => ⟨S1024, .f32⟩
  | .hbm, ⟨44, _⟩ => ⟨S1024, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S1024, .i32⟩
  | .hbm, ⟨62, _⟩ => ⟨S1024, .f32⟩
  | .hbm, ⟨63, _⟩ => ⟨S1024, .i32⟩
  | .hbm, ⟨64, _⟩ => ⟨S512, .i32⟩
  | .hbm, ⟨65, _⟩ => ⟨S_, .i32⟩
  | .hbm, ⟨66, _⟩ => ⟨S512, .i32⟩
  | .hbm, ⟨67, _⟩ => ⟨S512, .i1⟩
  | .hbm, ⟨68, _⟩ => ⟨S_, .i32⟩
  | .hbm, ⟨69, _⟩ => ⟨S512, .i32⟩
  | .hbm, ⟨70, _⟩ => ⟨S512, .i32⟩
  | .hbm, ⟨71, _⟩ => ⟨S512, .i32⟩
  | .hbm, ⟨72, _⟩ => ⟨S512x1, .i32⟩
  | .hbm, ⟨73, _⟩ => ⟨S512, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v1 : Ref sig .tc := ⟨.hbm, 19, rfl⟩
abbrev main_v2 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_cst_1 : Ref sig .tc := ⟨.hbm, 45, rfl⟩
abbrev main_v6 : Ref sig .tc := ⟨.hbm, 46, rfl⟩
abbrev main_cst_2 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_cst_3 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_call2_v0 : Ref sig .tc := ⟨.hbm, 61, rfl⟩
abbrev main_call2_v1_0 : Ref sig .tc := ⟨.hbm, 62, rfl⟩
abbrev main_v19 : Ref sig .tc := ⟨.hbm, 63, rfl⟩
abbrev main_v20 : Ref sig .tc := ⟨.hbm, 64, rfl⟩
abbrev main_c : Ref sig .tc := ⟨.hbm, 65, rfl⟩
abbrev main_v21 : Ref sig .tc := ⟨.hbm, 66, rfl⟩
abbrev main_v22 : Ref sig .tc := ⟨.hbm, 67, rfl⟩
abbrev main_c_4 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_cst_5 : Ref sig .tc := ⟨.hbm, 74, rfl⟩
abbrev main_v28 : Ref sig .tc := ⟨.hbm, 75, rfl⟩
abbrev main_cst_6 : Ref sig .tc := ⟨.hbm, 76, rfl⟩
abbrev main_v29 : Ref sig .tc := ⟨.hbm, 77, rfl⟩

abbrev nD : Nat := 1
abbrev τ : Topo := Topo.v7x

variable {F : FTy → Type} [FloatOps F]
-- ==== Proof.StatsBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Pipeline.Value
public import Idealize.ShloMosaic.Lib.Ring
public import Idealize.ShloMosaic.Lib.Tactic
public import Idealize.ShloMosaic.Lib.WordCmp

@[expose] public section

/-!
What one grid point of the statistics kernel does to its three running row statistics: the row sums of
`exp x`, the row sums of `x`, and the logit at the row's target column. The three are kept in scratch
buffers from one point to the next; the last point combines them into the row's loss.
-/

set_option maxRecDepth 16384

noncomputable section

namespace Cert.Proof.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The points' kinds -/

/-- The point that zeroes the scratch buffers. -/
abbrev isFirst (i : grid0.Coords) : Prop :=
  (Scalar.cmpi .ne (Scalar.extui (Scalar.cmpi .eq (BitVec.ofNat 32 (i 0).val) 0#32)) 0#32) = 1#1
/-- The points whose block of columns lies inside the array. -/
abbrev isFull (i : grid0.Coords) : Prop :=
  (Scalar.cmpi .ne (Scalar.extui (Scalar.cmpi .slt (BitVec.ofNat 32 (i 0).val) 24#32)) 0#32) = 1#1
/-- The point whose block of columns overhangs the array, and which writes the losses. -/
abbrev isLast (i : grid0.Coords) : Prop := k0_cond3 i = 1#1

/-- Only the first point zeroes. -/
theorem isFirst_iff : ∀ t : Fin cfg0.N, isFirst (grid0.coords t) ↔ t.val = 0 :=
  (by decide +kernel : ∀ t : Fin grid0.N, isFirst (grid0.coords t) ↔ t.val = 0)
/-- All points but the last are full. -/
theorem isFull_iff : ∀ t : Fin cfg0.N, isFull (grid0.coords t) ↔ t.val < 24 :=
  (by decide +kernel : ∀ t : Fin grid0.N, isFull (grid0.coords t) ↔ t.val < 24)
/-- The last point is the twenty-fifth. -/
theorem isLast_iff : ∀ t : Fin cfg0.N, isLast (grid0.coords t) ↔ t.val = 24 :=
  (by decide +kernel : ∀ t : Fin grid0.N, isLast (grid0.coords t) ↔ t.val = 24)

/-! ## The statistics as pure functions -/

/-- The three running statistics of the rows. -/
structure Acc (F : FTy → Type) where
  /-- Row sums of `exp x`. -/
  s : Vec F S1024x1 .f32
  /-- Row sums of `x`. -/
  sx : Vec F S1024x1 .f32
  /-- The logit at the row's target column. -/
  xt : Vec F S1024x1 .f32

/-- The statistics before the first block: all zero. -/
def zeroAcc : Acc F := ⟨k0_pay1, k0_pay2, k0_pay3⟩

/-- The statistics after a full block `x`. -/
def fullStep (i : grid0.Coords) (x : Vec F S1024x4096 .f32) (tg : Vec F S1024x1 .i32) (a : Acc F) : Acc F :=
  ⟨k0_pay4 x a.s, k0_pay5 x a.sx, k0_pay6 i x tg a.xt⟩

/-- The column numbers inside a block. -/
def lanes : IVec S1024x4096 32 := iota .tc S1024x4096 32 [1] iota_S1024x4096_d1_w32

/-- The statistics after the overhanging block `x`: only its first 1696 columns count. -/
def lastStep (i : grid0.Coords) (x : Vec F S1024x4096 .f32) (tg : Vec F S1024x1 .i32) (a : Acc F) : Acc F :=
  ⟨k0_pay11 lanes x a.s, k0_pay12 lanes x a.sx,
    k0_pay7 (k0_pay13 (BitVec.ofNat 32 (i 0).val) lanes x tg a.xt)⟩

/-- The losses from the finished statistics. -/
def lossOf (a : Acc F) : Vec F S1024x1 .f32 := k0_pay8 a.s a.xt a.sx

theorem off_zero : (![0, 0] : Fin 2 → Nat) = fun _ => 0 := funext fun a => by fin_cases a <;> rfl

/-- A list of stores, the last of them through the whole buffer, leaves that one's payload. -/
theorem read_writes_unit {k : Kind} {sp : Space} {S : Shape} {e : EltTy} (v : View sig k sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon v f _ fun y => ⟨_, List.mem_cons_self, View.mem_set_unit_zero h inb y⟩]
  exact View.canon_cons_unit_zero h inb w L

/-- A load of the whole buffer reads its contents. -/
theorem readAt_unit {k : Kind} {sp : Space} {S : Shape} {e : EltTy} (v : View sig k sp S e)
    (f : v.ty.Contents (Elt F)) {off : Fin S.rank → Nat} (h : off = fun _ => 0)
    (inb : ∀ a, off a + S.size a ≤ S.size a) :
    v.readAt (Elt F) (Rect.unit off S.size inb).toLoadRect f = v.read (Elt F) f :=
  View.ld_unit_zero h inb _

/-! ## The body at a full point after the first -/

set_option maxHeartbeats 1600000 in
/-- At a full point that is not the first, the body adds the block to the three statistics and leaves its
    inputs and the output buffer alone. -/
theorem body_full (c : Dev nD) (i : grid0.Coords)
    (arg1 : Memref sig .tc .vmem S1024x4096 .f32) (harg1 : arg1.IsWhole)
    (arg2 : Memref sig .tc .vmem S1024x1 .i32) (harg2 : arg2.IsWhole)
    (arg3 : Memref sig .tc .vmem S1024x1 .f32) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1024x1 .f32) (harg6 : arg6.IsWhole)
    (hc0 : ¬isFirst i) (hc1 : isFull i) (hc2 : ¬isLast i)
    (x : Vec F S1024x4096 .f32) (tg : Vec F S1024x1 .i32) (a : Acc F) (E : Set ℕ) (K : PUnit → sProp 𝕄) :
    iprop(owns (c : Thread nD τ) arg1 fullShare x ∗ owns (c : Thread nD τ) arg2 fullShare tg
        ∗ owns (c : Thread nD τ) arg4 fullShare a.s ∗ owns (c : Thread nD τ) arg5 fullShare a.sx
        ∗ owns (c : Thread nD τ) arg6 fullShare a.xt
        ∗ (iprop(owns (c : Thread nD τ) arg1 fullShare x ∗ owns (c : Thread nD τ) arg2 fullShare tg
            ∗ owns (c : Thread nD τ) arg4 fullShare (fullStep i x tg a).s
            ∗ owns (c : Thread nD τ) arg5 fullShare (fullStep i x tg a).sx
            ∗ owns (c : Thread nD τ) arg6 fullShare (fullStep i x tg a).xt) -∗ K ⟨⟩))
      ⊢ wp frame (wpE (defs₀ (F := F)) Variants.none c none) E
          (cc0__stats_kernel i arg1 harg1 arg2 harg2 arg3 harg3 arg4 harg4 arg5 harg5 arg6 harg6) K := by
  obtain ⟨s, sx, xt⟩ := a
  simp only [cc0__stats_kernel_eq_skeleton]; unfold cc0__stats_kernel_skel
  simp only [k0_part1_eq_skeleton]
  unfold owns fullStep
  iintro ⟨⟨%f0, %hf0, H0⟩, ⟨%f1, %hf1, H1⟩, ⟨%fs0, %hfs0, HS0⟩, ⟨%fs1, %hfs1, HS1⟩, ⟨%fs2, %hfs2, HS2⟩, Hk⟩
  subst hf0 hf1
  dsimp only at hfs0 hfs1 hfs2
  subst hfs0 hfs1 hfs2
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [HS0]
  · iexists _; isplitr
    swap; · iexact HS0
    ipureintro
    refine (read_writes_unit _ _ off_zero _ _ _).trans ?_
    dsimp only
    rw [readAt_unit arg1.view f0 off_zero, readAt_unit arg4.view fs0 off_zero]
  isplitl [HS1]
  · iexists _; isplitr
    swap; · iexact HS1
    ipureintro
    refine (read_writes_unit _ _ off_zero _ _ _).trans ?_
    dsimp only
    rw [readAt_unit arg1.view f0 off_zero, readAt_unit arg5.view fs1 off_zero]
  iexists _; isplitr
  swap; · iexact HS2
  ipureintro
  refine (read_writes_unit _ _ off_zero _ _ _).trans ?_
  dsimp only
  rw [readAt_unit arg1.view f0 off_zero, readAt_unit arg2.view f1 off_zero, readAt_unit arg6.view fs2 off_zero]

/-! ## The body at the first point -/

set_option maxHeartbeats 1600000 in
/-- At the first point the body zeroes the statistics, whatever the scratch held, and adds the block. -/
theorem body_first (c : Dev nD) (i : grid0.Coords)
    (arg1 : Memref sig .tc .vmem S1024x4096 .f32) (harg1 : arg1.IsWhole)
    (arg2 : Memref sig .tc .vmem S1024x1 .i32) (harg2 : arg2.IsWhole)
    (arg3 : Memref sig .tc .vmem S1024x1 .f32) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1024x1 .f32) (harg6 : arg6.IsWhole)
    (hc0 : isFirst i) (hc1 : isFull i) (hc2 : ¬isLast i)
    (x : Vec F S1024x4096 .f32) (tg : Vec F S1024x1 .i32) (E : Set ℕ) (K : PUnit → sProp 𝕄) :
    iprop(owns (c : Thread nD τ) arg1 fullShare x ∗ owns (c : Thread nD τ) arg2 fullShare tg
        ∗ (∃ d, owns (c : Thread nD τ) arg4 fullShare d) ∗ (∃ d, owns (c : Thread nD τ) arg5 fullShare d)
        ∗ (∃ d, owns (c : Thread nD τ) arg6 fullShare d)
        ∗ (iprop(owns (c : Thread nD τ) arg1 fullShare x ∗ owns (c : Thread nD τ) arg2 fullShare tg
            ∗ owns (c : Thread nD τ) arg4 fullShare (fullStep i x tg (zeroAcc (F := F))).s
            ∗ owns (c : Thread nD τ) arg5 fullShare (fullStep i x tg (zeroAcc (F := F))).sx
            ∗ owns (c : Thread nD τ) arg6 fullShare (fullStep i x tg (zeroAcc (F := F))).xt) -∗ K ⟨⟩))
      ⊢ wp frame (wpE (defs₀ (F := F)) Variants.none c none) E
          (cc0__stats_kernel i arg1 harg1 arg2 harg2 arg3 harg3 arg4 harg4 arg5 harg5 arg6 harg6) K := by
  simp only [cc0__stats_kernel_eq_skeleton]; unfold cc0__stats_kernel_skel
  simp only [k0_part1_eq_skeleton]
  unfold owns fullStep zeroAcc
  iintro ⟨⟨%f0, %hf0, H0⟩, ⟨%f1, %hf1, H1⟩, ⟨%d0, %fs0, -, HS0⟩, ⟨%d1, %fs1, -, HS1⟩, ⟨%d2, %fs2, -, HS2⟩, Hk⟩
  subst hf0 hf1
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [HS0]
  · iexists _; isplitr
    swap; · iexact HS0
    ipureintro
    refine (read_writes_unit _ _ off_zero _ _ _).trans ?_
    sl_unfold_run_names
    dsimp only
    rw [View.readCov_unit_zero arg4.view off_zero, readAt_unit arg1.view f0 off_zero]
  isplitl [HS1]
  · iexists _; isplitr
    swap; · iexact HS1
    ipureintro
    refine (read_writes_unit _ _ off_zero _ _ _).trans ?_
    sl_unfold_run_names
    dsimp only
    rw [View.readCov_unit_zero arg5.view off_zero, readAt_unit arg1.view f0 off_zero]
  iexists _; isplitr
  swap; · iexact HS2
  ipureintro
  refine (read_writes_unit _ _ off_zero _ _ _).trans ?_
  sl_unfold_run_names
  dsimp only
  rw [View.readCov_unit_zero arg6.view off_zero, readAt_unit arg1.view f0 off_zero,
    readAt_unit arg2.view f1 off_zero]

/-! ## The body at the last point -/

set_option maxHeartbeats 1600000 in
/-- At the last point the body adds the columns of the block that lie inside the array to the statistics and
    writes the losses. -/
theorem body_last (c : Dev nD) (i : grid0.Coords)
    (arg1 : Memref sig .tc .vmem S1024x4096 .f32) (harg1 : arg1.IsWhole)
    (arg2 : Memref sig .tc .vmem S1024x1 .i32) (harg2 : arg2.IsWhole)
    (arg3 : Memref sig .tc .vmem S1024x1 .f32) (harg3 : arg3.IsWhole)
    (arg4 : Memref sig .tc .vmem S1024x1 .f32) (harg4 : arg4.IsWhole)
    (arg5 : Memref sig .tc .vmem S1024x1 .f32) (harg5 : arg5.IsWhole)
    (arg6 : Memref sig .tc .vmem S1024x1 .f32) (harg6 : arg6.IsWhole)
    (hc0 : ¬isFirst i) (hc1 : ¬isFull i) (hc2 : isLast i)
    (x : Vec F S1024x4096 .f32) (tg : Vec F S1024x1 .i32) (a : Acc F) (E : Set ℕ) (K : PUnit → sProp 𝕄) :
    iprop(owns (c : Thread nD τ) arg1 fullShare x ∗ owns (c : Thread nD τ) arg2 fullShare tg
        ∗ (∃ d, owns (c : Thread nD τ) arg3 fullShare d)
        ∗ owns (c : Thread nD τ) arg4 fullShare a.s ∗ owns (c : Thread nD τ) arg5 fullShare a.sx
        ∗ owns (c : Thread nD τ) arg6 fullShare a.xt
        ∗ (iprop(owns (c : Thread nD τ) arg1 fullShare x ∗ owns (c : Thread nD τ) arg2 fullShare tg
            ∗ owns (c : Thread nD τ) arg3 fullShare (lossOf (lastStep i x tg a))
            ∗ owns (c : Thread nD τ) arg4 fullShare (lastStep i x tg a).s
            ∗ owns (c : Thread nD τ) arg5 fullShare (lastStep i x tg a).sx
            ∗ owns (c : Thread nD τ) arg6 fullShare (lastStep i x tg a).xt) -∗ K ⟨⟩))
      ⊢ wp frame (wpE (defs₀ (F := F)) Variants.none c none) E
          (cc0__stats_kernel i arg1 harg1 arg2 harg2 arg3 harg3 arg4 harg4 arg5 harg5 arg6 harg6) K := by
  obtain ⟨s, sx, xt⟩ := a
  simp only [cc0__stats_kernel_eq_skeleton]; unfold cc0__stats_kernel_skel
  simp only [k0_part1_eq_skeleton]
  unfold owns lossOf lastStep lanes
  iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
  subst hf0 hf1
  dsimp only at hfs0 hfs1 hfs2
  subst hfs0 hfs1 hfs2
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (read_writes_unit _ _ off_zero _ _ _).trans ?_
    sl_unfold_run_names
    dsimp only
    rw [View.readCov_unit_zero arg4.view off_zero, View.readCov_unit_zero arg5.view off_zero,
      View.readCov_unit_zero arg6.view off_zero, readAt_unit arg1.view f0 off_zero, readAt_unit arg2.view f1 off_zero,
      readAt_unit arg4.view fs0 off_zero, readAt_unit arg5.view fs1 off_zero, readAt_unit arg6.view fs2 off_zero]
  isplitl [HS0]
  · iexists _; isplitr
    swap; · iexact HS0
    ipureintro
    refine (read_writes_unit _ _ off_zero _ _ _).trans ?_
    sl_unfold_run_names
    dsimp only
    rw [readAt_unit arg1.view f0 off_zero, readAt_unit arg4.view fs0 off_zero]
  isplitl [HS1]
  · iexists _; isplitr
    swap; · iexact HS1
    ipureintro
    refine (read_writes_unit _ _ off_zero _ _ _).trans ?_
    sl_unfold_run_names
    dsimp only
    rw [readAt_unit arg1.view f0 off_zero, readAt_unit arg5.view fs1 off_zero]
  iexists _; isplitr
  swap; · iexact HS2
  ipureintro
  refine (read_writes_unit _ _ off_zero _ _ _).trans ?_
  sl_unfold_run_names
  dsimp only
  rw [readAt_unit arg1.view f0 off_zero, readAt_unit arg2.view f1 off_zero, readAt_unit arg6.view fs2 off_zero]

end Cert.Proof.Stats

end
-- ==== Proof.StatsRegion.lean ====
module

public import proofs.«01_k».proof.Proof.StatsBody

@[expose] public section

/-!
The statistics kernel's grid, point by point: what each block of columns holds, what the statistics are after
each point, and the statement that the body at every point carries them from one to the next.
-/

set_option maxRecDepth 16384

noncomputable section

namespace Cert.Proof.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

/-! ## The overhanging block: only its columns inside the array count -/

/-- A column number is below 1696 as a word exactly when it is as a number. -/
theorem lanes_lt (j : S1024x4096.Idx) :
    k0_pay9 lanes j = 1#1 ↔ (j 1).val < 1696 := by
  have hj : (j 1).val < 4096 := (j 1).isLt
  unfold k0_pay9 lanes
  show Scalar.cmpi .slt (BitVec.ofNat 32 (0 * 4096 + (j 1).val)) 1696#32 = 1#1 ↔ _
  rw [Nat.zero_mul, Nat.zero_add]
  show IntOp.cmpi .slt (BitVec.ofNat 32 (j 1).val) (BitVec.ofNat 32 1696) = 1#1 ↔ _
  exact WordCmp.cmpi_slt_ofNat_eq_one_iff (by omega) (by decide)

/-- Two blocks that agree on the columns inside the array are alike under the column mask. -/
theorem mask_congr {x y : Vec F S1024x4096 .f32} (h : ∀ j : S1024x4096.Idx, (j 1).val < 1696 → x j = y j)
    (z : Vec F S1024x4096 .f32) : select (k0_pay9 lanes) x z = select (k0_pay9 lanes) y z := by
  funext j
  show Scalar.select (k0_pay9 lanes j) (x j) (z j) = Scalar.select (k0_pay9 lanes j) (y j) (z j)
  by_cases hj : k0_pay9 lanes j = 1#1
  · rw [h j ((lanes_lt j).mp hj)]
  · exact (if_neg hj).trans (if_neg hj).symm

/-- So the last step does not see the other columns. -/
theorem lastStep_congr (i : grid0.Coords) {x y : Vec F S1024x4096 .f32} (tg : Vec F S1024x1 .i32) (a : Acc F)
    (h : ∀ j : S1024x4096.Idx, (j 1).val < 1696 → x j = y j) : lastStep i x tg a = lastStep i y tg a := by
  unfold lastStep k0_pay11 k0_pay12 k0_pay13 k0_pay10
  simp only [mask_congr h]

/-! ## The blocks and the statistics, point by point -/

/-- What every buffer of every core holds where the kernel starts. -/
abbrev Vals (F : FTy → Type) := (c : Dev nD) → (b : Ref sig .tc) → Buf (Elt F) ((c : Thread nD τ).loc b)

variable (V : Vals F)

/-- The part of window `w`'s array that the transfer at point `t` moves. -/
def iblk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- Point `t`'s block of columns, `d` where it overhangs the array. -/
def xpad (c : Dev nD) (t : Fin cfg0.N) (d : Vec F S1024x4096 .f32) : Vec F S1024x4096 .f32 :=
  (cfg0.win 0).fill (cfg0.grid.coords t) d (iblk V c 0 t)

/-- Point `t`'s block of columns, zero where it overhangs the array. -/
def xblk (c : Dev nD) (t : Fin cfg0.N) : Vec F S1024x4096 .f32 := xpad V c t fun _ => Scalar.ofBits .f32 0#32

/-- The targets, as the window holds them. -/
def tblk (c : Dev nD) (t : Fin cfg0.N) : Vec F S1024x1 .i32 := iblk V c 1 t

/-- One point's effect on the statistics, on block `x`. -/
def step (c : Dev nD) (t : Fin cfg0.N) (x : Vec F S1024x4096 .f32) (a : Acc F) : Acc F :=
  if t.val < 24 then fullStep (grid0.coords t) x (tblk V c t) a else lastStep (grid0.coords t) x (tblk V c t) a

/-- The statistics after the first `n` points. -/
def accAt (c : Dev nD) : (n : ℕ) → n ≤ cfg0.N → Acc F
  | 0, _ => zeroAcc
  | n + 1, h => step V c ⟨n, h⟩ (xblk V c ⟨n, h⟩) (accAt c n (Nat.le_of_lt h))

/-- The columns of a block that its transfer moves: all of them but at the last point, where they are 1696. -/
theorem xsize_col : ∀ t : Fin cfg0.N, win0_0.xsize (grid0.coords t) 1 = if t.val < 24 then 4096 else 1696 :=
  (by decide +kernel : ∀ t : Fin grid0.N, win0_0.xsize (grid0.coords t) 1 = if t.val < 24 then 4096 else 1696)
/-- Its rows: all of them. -/
theorem xsize_row : ∀ t : Fin cfg0.N, win0_0.xsize (grid0.coords t) 0 = 1024 :=
  (by decide +kernel : ∀ t : Fin grid0.N, win0_0.xsize (grid0.coords t) 0 = 1024)

/-- The columns moved, at any point. -/
theorem moved_of_lt (t : Fin cfg0.N) (j : S1024x4096.Idx) (h : (j 1).val < if t.val < 24 then 4096 else 1696) :
    win0_0.moved (grid0.coords t) j = true := by
  refine (win0_0.moved_iff _ j).mpr fun a => ?_
  fin_cases a
  · show (j 0).val < win0_0.xsize (grid0.coords t) 0
    rw [xsize_row]; exact (j 0).isLt
  · show (j 1).val < win0_0.xsize (grid0.coords t) 1
    rw [xsize_col]; exact h

/-- The padding does not show on the columns moved. -/
theorem xpad_congr (c : Dev nD) (t : Fin cfg0.N) (d d' : Vec F S1024x4096 .f32) (j : S1024x4096.Idx)
    (h : (j 1).val < if t.val < 24 then 4096 else 1696) : xpad V c t d j = xpad V c t d' j := by
  have hm : (cfg0.win 0).moved (cfg0.grid.coords t) j = true := moved_of_lt t j h
  unfold xpad Window.fill
  rw [dif_pos hm, dif_pos hm]

/-- Nor does it show in the statistics. -/
theorem step_xpad (c : Dev nD) (t : Fin cfg0.N) (d d' : Vec F S1024x4096 .f32) (a : Acc F) :
    step V c t (xpad V c t d) a = step V c t (xpad V c t d') a := by
  unfold step
  split
  · next h =>
    rw [show xpad V c t d = xpad V c t d' from funext fun j => xpad_congr V c t d d' j (by rw [if_pos h]; exact (j 1).isLt)]
  · next h => exact lastStep_congr _ _ _ fun j hj => xpad_congr V c t d d' j (by rw [if_neg h]; exact hj)

/-! ## The invariant -/

abbrev scr0 : Memref sig .tc .vmem S1024x1 .f32 := Memref.whole cc0_scratch0
abbrev scr1 : Memref sig .tc .vmem S1024x1 .f32 := Memref.whole cc0_scratch1
abbrev scr2 : Memref sig .tc .vmem S1024x1 .f32 := Memref.whole cc0_scratch2

/-- The buffers of the other kernel, which this one does not touch. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f))

/-- The scratch buffers at the statistics `a`. -/
def holds (c : Dev nD) (a : Acc F) : sProp 𝕄 :=
  iprop(owns (c : Thread nD τ) scr0 fullShare a.s ∗ owns (c : Thread nD τ) scr1 fullShare a.sx
    ∗ owns (c : Thread nD τ) scr2 fullShare a.xt)

/-- The invariant before position `n`: the scratch at anything before the first point, at the statistics after. -/
def Inv (c : Dev nD) : (n : ℕ) → n ≤ cfg0.N → sProp 𝕄
  | 0, _ => Pipeline.ΦA spec0 c
  | n + 1, h => iprop((holds c (accAt V c (n + 1) h) ∗ others (F := F) c) ∗ ∃ r, prngReg c r)

theorem Inv_zero (c : Dev nD) (n : ℕ) (h : n ≤ cfg0.N) (hz : n = 0) : Inv V c n h = Pipeline.ΦA spec0 c := by
  subst hz; rfl

theorem Inv_pos (c : Dev nD) (n : ℕ) (h : n ≤ cfg0.N) (hz : n ≠ 0) :
    Inv V c n h = iprop((holds c (accAt V c n h) ∗ others (F := F) c) ∗ ∃ r, prngReg c r) := by
  cases n with
  | zero => exact absurd rfl hz
  | succ n => rfl

/-- The class's invariant with the three scratch buffers apart. -/
theorem entry_eq (c : Dev nD) :
    (Pipeline.ΦA spec0 c : sProp 𝕄)
      = iprop(((∃ d, owns (c : Thread nD τ) scr0 fullShare d) ∗ (∃ d, owns (c : Thread nD τ) scr1 fullShare d)
          ∗ (∃ d, owns (c : Thread nD τ) scr2 fullShare d) ∗ others (F := F) c) ∗ ∃ r, prngReg c r) := by
  unfold Pipeline.ΦA others; rw [scopedRest0_eq]; simp only [scr0, scr1, scr2, owns_whole]; try rfl

/-! ## The proof data -/

/-- The statistics kernel's proof data: the arrays as found, each input buffer at its block, the output buffer at
    the losses of the statistics so far. -/
def dat (c : Dev nD) : Dat τ (Elt F) Unit ℕ (UR sig nD τ) ℕ cfg0 c where
  A w := V c (Pipeline.arrRef spec0 w)
  after w t := match w with
    | ⟨0, _⟩ => xblk V c t
    | ⟨1, _⟩ => iblk V c 1 t
    | ⟨2, _⟩ => lossOf (accAt V c (t.val + 1) t.isLt)
  Φ t := Inv V c t.val (Nat.le_of_lt_succ t.isLt)
  q _ := fullShare
  owed _ := 0

theorem A_eq (c : Dev nD) (w : Fin cfg0.W) : (dat V c).A w = V c (Pipeline.arrRef spec0 w) := by dsimp only [dat]
theorem Φ_castSucc (c : Dev nD) (t : Fin cfg0.N) : (dat V c).Φ t.castSucc = Inv V c t.val (Nat.le_of_lt t.isLt) := by
  dsimp only [dat]; exact Dat.Φ_castSucc (Inv V c) t
theorem after_0 (c : Dev nD) (t : Fin cfg0.N) : (dat V c).after 0 t = xblk V c t := by dsimp only [dat]
theorem after_1 (c : Dev nD) (t : Fin cfg0.N) : (dat V c).after 1 t = iblk V c 1 t := by dsimp only [dat]
theorem after_2 (c : Dev nD) (t : Fin cfg0.N) : (dat V c).after 2 t = lossOf (accAt V c (t.val + 1) t.isLt) := by
  dsimp only [dat]

/-- The body finds its block of columns in the first buffer, anything where the block overhangs. -/
theorem before_0 (c : Dev nD) (t : Fin cfg0.N) (d) : (dat V c).before 0 t d = xpad V c t d := by
  unfold Dat.before; rw [if_pos (fetch0_0 t)]
  unfold Dat.fetched Dat.blockOf xpad iblk; rw [A_eq]

/-- And the targets in the second. -/
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

theorem live_0 : ∀ t : Fin cfg0.N, cfg0.idle 0 (grid0.coords t) = false := fun _ => rfl
theorem live_1 : ∀ t : Fin cfg0.N, cfg0.idle 1 (grid0.coords t) = false := fun _ => rfl
theorem idle_2 : ∀ t : Fin cfg0.N, t.val < 24 → cfg0.idle 2 (grid0.coords t) = true :=
  (by decide +kernel : ∀ t : Fin grid0.N, t.val < 24 → idle0 2 (grid0.coords t) = true)
theorem live_2 : ∀ t : Fin cfg0.N, ¬t.val < 24 → cfg0.idle 2 (grid0.coords t) = false :=
  (by decide +kernel : ∀ t : Fin grid0.N, ¬t.val < 24 → idle0 2 (grid0.coords t) = false)
theorem noFlush_2 (t : Fin cfg0.N) (h : t.val < 24) : (cfg0.win 2).flush t = false :=
  Bool.eq_false_iff.mpr fun hf => by have := (flush0_2 t).mp hf; omega

theorem leaves_0 (c : Dev nD) (t : Fin cfg0.N) : (dat V c).leaves 0 t
    = iprop(∃ d, owns (c : Thread nD τ) (st0_0 t) fullShare (xpad V c t d)) := by
  unfold Dat.leaves; rw [live_0 t, after_0]
  unfold xblk xpad
  simp only [Window.cut_fill]; rfl
theorem leaves_1 (c : Dev nD) (t : Fin cfg0.N) : (dat V c).leaves 1 t
    = owns (c : Thread nD τ) (st0_1 t) fullShare (iblk V c 1 t) := by
  unfold Dat.leaves; rw [live_1 t, after_1]
theorem leaves_2 (c : Dev nD) (t : Fin cfg0.N) (h : ¬t.val < 24) : (dat V c).leaves 2 t
    = owns (c : Thread nD τ) (st0_2 t) fullShare (lossOf (accAt V c (t.val + 1) t.isLt)) := by
  unfold Dat.leaves; rw [live_2 t h, after_2]

/-! ## The body at every point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it gives back. -/
def bodyPost (c : Dev nD) (t : Fin cfg0.N) : sProp 𝕄 :=
  iprop((dat V c).Φ t.succ ∗ (dat V c).owesAt () t.succ
    ∗ (dat V c).leaves 0 t ∗ (dat V c).leaves 1 t ∗ (dat V c).leaves 2 t)

theorem accAt_succ_full (c : Dev nD) (t : Fin cfg0.N) (h : t.val < 24) (d : Vec F S1024x4096 .f32) :
    accAt V c (t.val + 1) t.isLt
      = fullStep (grid0.coords t) (xpad V c t d) (iblk V c 1 t) (accAt V c t.val (Nat.le_of_lt t.isLt)) := by
  show step V c t (xblk V c t) _ = _
  unfold xblk; rw [step_xpad V c t _ d]; unfold step tblk; rw [if_pos h]
theorem accAt_succ_last (c : Dev nD) (t : Fin cfg0.N) (h : ¬t.val < 24) (d : Vec F S1024x4096 .f32) :
    accAt V c (t.val + 1) t.isLt
      = lastStep (grid0.coords t) (xpad V c t d) (iblk V c 1 t) (accAt V c t.val (Nat.le_of_lt t.isLt)) := by
  show step V c t (xblk V c t) _ = _
  unfold xblk; rw [step_xpad V c t _ d]; unfold step tblk; rw [if_neg h]

set_option maxHeartbeats 1600000 in
/-- The body at any point carries the invariant from the point to the next. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = Inv V c (t.val + 1) t.isLt from rfl, Inv_pos V c _ _ (Nat.succ_ne_zero _), Φ_castSucc]
  rw [leaves_0, leaves_1]
  have hN : t.val < 25 := lt_of_lt_of_eq t.isLt (show cfg0.N = 25 from N_0)
  by_cases h : t.val < 24
  · rw [Dat.leaves_idle (dat V c) 2 t (idle_2 t h) (noFlush_2 t h)]
    by_cases hz : t.val = 0
    · rw [Inv_zero V c _ _ hz, entry_eq]
      iintro ⟨⟨⟨HS0, HS1, HS2, Hr⟩, Hg⟩, Ho, ⟨%d0, H0⟩, ⟨%d1, H1⟩, ⟨%d2, H2⟩⟩
      have hacc : accAt V c (t.val + 1) t.isLt = fullStep (grid0.coords t) (xpad V c t d0) (iblk V c 1 t) zeroAcc := by
        rw [accAt_succ_full V c t h d0]
        congr 1
        obtain ⟨n, hn⟩ := t
        dsimp only at hz; subst hz; rfl
      rw [hacc]; unfold holds
      iapply (body_first c (grid0.coords t) _ _ _ _ _ _ _ _ _ _ _ _ ((isFirst_iff t).mpr hz) ((isFull_iff t).mpr h)
        (fun hl => by have := (isLast_iff t).mp hl; omega) (xpad V c t d0) (iblk V c 1 t) Set.univ _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexists d0; iexact H0
      isplitl [H1]; · iexact H1
      iexists d2; iexact H2
    · rw [Inv_pos V c _ _ hz]; unfold holds
      iintro ⟨⟨⟨⟨HS0, HS1, HS2⟩, Hr⟩, Hg⟩, Ho, ⟨%d0, H0⟩, ⟨%d1, H1⟩, ⟨%d2, H2⟩⟩
      rw [accAt_succ_full V c t h d0]
      iapply (body_full c (grid0.coords t) _ _ _ _ _ _ _ _ _ _ _ _ (fun hf => hz ((isFirst_iff t).mp hf)) ((isFull_iff t).mpr h)
        (fun hl => by have := (isLast_iff t).mp hl; omega) (xpad V c t d0) (iblk V c 1 t)
        (accAt V c t.val (Nat.le_of_lt t.isLt)) Set.univ _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexists d0; iexact H0
      isplitl [H1]; · iexact H1
      iexists d2; iexact H2
  · rw [leaves_2 V c t h, Inv_pos V c _ _ (fun hz => h (by omega))]; unfold holds
    iintro ⟨⟨⟨⟨HS0, HS1, HS2⟩, Hr⟩, Hg⟩, Ho, ⟨%d0, H0⟩, ⟨%d1, H1⟩, ⟨%d2, H2⟩⟩
    rw [accAt_succ_last V c t h d0]
    iapply (body_last c (grid0.coords t) _ _ _ _ _ _ _ _ _ _ _ _ (fun hf => by have := (isFirst_iff t).mp hf; omega)
      (fun hf => h ((isFull_iff t).mp hf)) ((isLast_iff t).mpr (by omega)) (xpad V c t d0) (iblk V c 1 t)
      (accAt V c t.val (Nat.le_of_lt t.isLt)) Set.univ _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, H2, HS0, HS1, HS2⟩
    isplitl [HS0 HS1 HS2 Hr Hg]
    · isplitl [HS0 HS1 HS2 Hr]
      · isplitl [HS0 HS1 HS2]
        · isplitl [HS0]; · iexact HS0
          isplitl [HS1]; · iexact HS1
          iexact HS2
        iexact Hr
      iexact Hg
    isplitl [Ho]; · iexact Ho
    isplitl [H0]; · iexists d0; iexact H0
    isplitl [H1]; · iexact H1
    iexact H2

/-- The body table's row at a point is the body there. -/
theorem row_eq (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligationLoose (dat V c) (defs₀ (F := F)) Variants.none () Set.univ := fun t => by
  rw [bigSep_W0, bigSep_W0, row_eq]
  exact triple_restated (sound_body V c t) rfl .rfl fun _ => .rfl

/-- The class's invariant is the one before the first point. -/
theorem Φ_first (c : Dev nD) : Pipeline.ΦA spec0 c ⊢ (dat V c).Φ 0 := by
  rw [show (dat V c).Φ 0 = Inv V c 0 (Nat.zero_le _) from rfl, Inv_zero V c 0 _ rfl]

/-- After the last point it is given back, the statistics forgotten. -/
theorem Φ_last (c : Dev nD) : (dat V c).Φ (Fin.last cfg0.N) ⊢ Pipeline.ΦA spec0 c := by
  rw [show (dat V c).Φ (Fin.last cfg0.N) = Inv V c cfg0.N (Nat.le_refl _) from rfl,
    Inv_pos V c _ _ (by rw [show cfg0.N = 25 from N_0]; decide), entry_eq]
  unfold holds
  iintro ⟨⟨⟨HS0, HS1, HS2⟩, Hr⟩, Hg⟩
  isplitl [HS0 HS1 HS2 Hr]
  · isplitl [HS0]; · iexists _; iexact HS0
    isplitl [HS1]; · iexists _; iexact HS1
    isplitl [HS2]; · iexists _; iexact HS2
    iexact Hr
  iexact Hg

end Cert.Proof.Stats

end
-- ==== Proof.TopkRegion.lean ====
module

public import proofs.«01_k».proof.Proof.StatsRegion

@[expose] public section

/-!
The top-k kernel: its one grid point takes the losses as a row and as a column and leaves their top-512 mean.
-/

set_option maxRecDepth 16384

noncomputable section

namespace Cert.Proof.Topk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Stats (Vals off_zero readAt_unit read_writes_unit)

variable {F : FTy → Type} [FloatOps F] [Named F]

local notation "𝕄" => MT nD τ sig Unit (Elt F) ℕ (UR sig nD τ) ℕ

set_option maxHeartbeats 1000000 in
/-- The body leaves the printed function of its two inputs in the output buffer, the inputs as they were. -/
theorem body_topk (c : Dev nD) (arg0 : Memref sig .tc .vmem S1x1024 .f32) (harg0 : arg0.IsWhole)
    (arg1 : Memref sig .tc .vmem S1024x1 .f32) (harg1 : arg1.IsWhole)
    (arg2 : Memref sig .tc .vmem S1x1 .f32) (harg2 : arg2.IsWhole)
    (row : Vec F S1x1024 .f32) (col : Vec F S1024x1 .f32) (E : Set ℕ) (K : PUnit → sProp 𝕄) :
    iprop(owns (c : Thread nD τ) arg0 fullShare row ∗ owns (c : Thread nD τ) arg1 fullShare col
        ∗ (∃ d, owns (c : Thread nD τ) arg2 fullShare d)
        ∗ (iprop(owns (c : Thread nD τ) arg0 fullShare row ∗ owns (c : Thread nD τ) arg1 fullShare col
            ∗ owns (c : Thread nD τ) arg2 fullShare (k1_pay1 row col)) -∗ K ⟨⟩))
      ⊢ wp frame (wpE (defs₀ (F := F)) Variants.none c none) E (cc1__topk_kernel arg0 harg0 arg1 harg1 arg2 harg2) K := by
  simp only [cc1__topk_kernel_eq_skeleton]; unfold cc1__topk_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (read_writes_unit _ _ off_zero _ _ _).trans ?_
  rw [readAt_unit arg0.view f0 off_zero, readAt_unit arg1.view f1 off_zero]

variable (V : Vals F)

/-- What window `w`'s array holds. -/
def iblk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The top-k kernel's proof data. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay1 (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = k1_pay1 (iblk V c 0 t) (iblk V c 1 t) := by
  dsimp only [dat]

/-- The body finds the losses, as a row, in the first buffer, -/
theorem before_0 (c : Dev nD) (t : Fin cfg1.N) (d) : (dat V c).before 0 t d = iblk V c 0 t := by
  unfold Dat.before; rw [if_pos (fetch1_0 t)]
  unfold Dat.fetched Dat.blockOf iblk; rw [A_eq]; rfl
/-- and as a column in the second. -/
theorem before_1 (c : Dev nD) (t : Fin cfg1.N) (d) : (dat V c).before 1 t d = iblk V c 1 t := by
  unfold Dat.before; rw [if_pos (fetch1_1 t)]
  unfold Dat.fetched Dat.blockOf iblk; rw [A_eq]; rfl

/-- What the body is called with, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it gives back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at the one point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl, after_0, after_1, after_2]
  iintro ⟨HΦ, Ho, ⟨%d0, H0⟩, ⟨%d1, H1⟩, ⟨%d2, H2⟩⟩
  iapply (body_topk c _ _ _ _ _ _ (iblk V c 0 t) (iblk V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at the point is the body there. -/
theorem row_eq (t : Fin cfg1.N) : defs₀ (F := F) .tc cfg1.body (cfg1.bodyArgs t (cfg1.slots t)) = bodyAt1 t := by
  unfold defs₀; rw [Defs.onTc_tc]

/-- The body's obligation. -/
theorem obligation (c : Dev nD) : BodyObligation (dat V c) (defs₀ (F := F)) Variants.none () Set.univ := fun t => by
  rw [bigSep_W1, bigSep_W1, row_eq]
  exact triple_restated (sound_body V c t) rfl .rfl fun _ => .rfl

end Cert.Proof.Topk

end
-- ==== Proof.KernelRun.lean ====
module

public import proofs.«01_k».proof.Proof.TopkRegion
public import proofs.«01_k».proof.Proof.Gen.KernelIdeal.Regions
public import Idealize.ShloMosaic.Lib.Pipeline.RegionArrays
public import Idealize.ShloMosaic.Lib.Pipeline.RegionsLoop

@[expose] public section

/-!
The whole program's run: a reshape of the targets, the statistics region, a reshape of the losses, the top-k region,
a reshape of its one number. From any memory with zero counters the run ends, the arguments as launched, the result at
what the two regions' data say.
-/

set_option maxRecDepth 16384

noncomputable section

namespace Cert.Proof.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg RegionSeg BodyObligationLoose pin arrRef)

variable {F : FTy → Type} [FloatOps F] [Named F]

local notation "𝕄" => MT nD τ sig Unit (Elt F) ℕ (UR sig nD τ) ℕ

variable (m : (ℓ : Loc nD τ sig) → Buf (Elt F) ℓ)

/-! ## What the two regions leave -/

/-- The losses, a column, as the statistics region leaves them. -/
def out0 (c : Dev nD) : Buf (Elt F) ((c : Thread nD τ).loc main_call0_v1) :=
  (Stats.dat (fun c b => V1 m c b) c).arrAt 2 cfg0.N

/-- Those, and every other buffer as launched. -/
def outsA (r : Ref sig .tc) (c : Dev nD) : Buf (Elt F) ((c : Thread nD τ).loc r) :=
  if h : r = main_call0_v1 then h.symm ▸ out0 m c else m ((c : Thread nD τ).loc r)

/-- The mean, one number, as the top-k region leaves it. -/
def out1 (c : Dev nD) : Buf (Elt F) ((c : Thread nD τ).loc main_call0_v3) :=
  (Topk.dat (fun c b => V3 m (fun _ => outsA m) c b) c).arrAt 2 cfg1.N

/-- That, and every other buffer as launched. -/
def outsB (r : Ref sig .tc) (c : Dev nD) : Buf (Elt F) ((c : Thread nD τ).loc r) :=
  if h : r = main_call0_v3 then h.symm ▸ out1 m c else m ((c : Thread nD τ).loc r)

/-- What each region leaves, by its place in the program. -/
def outs : Outs (F := F) := fun J => match J with
  | 2 => outsA m
  | _ => outsB m

theorem outs_2 (c : Dev nD) : outs m 2 main_call0_v1 c = out0 m c := by
  show outsA m main_call0_v1 c = _
  exact dif_pos rfl

theorem outs_4 (c : Dev nD) : outs m 4 main_call0_v3 c = out1 m c := by
  show outsB m main_call0_v3 c = _
  exact dif_pos rfl

/-- The losses stand in their buffer after the first region, -/
theorem V2_out (c : Dev nD) : V2 m (outs m) c main_call0_v1 = out0 m c := by
  rw [V2, Function.update_self]; exact outs_2 m c

/-- the mean in its own after the second. -/
theorem V4_out (c : Dev nD) : V4 m (outs m) c main_call0_v3 = out1 m c := by
  rw [V4, Function.update_self]; exact outs_4 m c

/-- The buffers before the top-k region do not depend on what it leaves. -/
theorem V3_outs (c : Dev nD) : V3 m (fun _ => outsA m) c = V3 m (outs m) c := rfl

/-- The two regions' data. -/
def pdats : (p : Fin 2) → (c : Dev nD) → Dat τ (Elt F) Unit ℕ (UR sig nD τ) ℕ (cfgs p) c
  | 0 => fun c => Stats.dat (fun c b => V1 m c b) c
  | 1 => fun c => Topk.dat (fun c b => V3 m (outs m) c b) c

/-! ## A region between two contents of the buffers -/

/-- No core owes another anything: no level is assigned. -/
abbrev L : GSem nD τ sig → Finset Unit := fun _ => ∅
abbrev lv : GSem nD τ sig → Unit → ℕ := fun _ _ => 0

/-- What rides beside the buffers: nothing owed, and the generator's register at something. -/
abbrev E (c : Dev nD) : sProp 𝕄 :=
  iprop((∃ W, owes (c : Thread nD τ) (0 : CellTallies nD τ sig Unit) W) ∗ ∃ r, prngReg c r)

/-- The pipelines' algebra is the whole of the user's. -/
abbrev EP : Emb (UR sig nD τ) (MT nD τ sig Unit (Elt F) ℕ (UR sig nD τ) ℕ) := emb₁

set_option backward.isDefEq.respectTransparency.types false in
/-- A region with no table, no semaphore of its own and nothing owed, entered from the buffers at `W` and left with
    its arrays as its data say and every other buffer as it was: the buffers at `W'`. -/
def region (p : Fin 2) (kit : Pipeline.LaunchFacts (nD := nD) (τ := τ) cfgs p)
    (hK : (pcfgs (F := F) p).pre.K = 0)
    (hbody : ∀ c, BodyObligationLoose (pdats m p c) (defs₀ (F := F)) Variants.none () Set.univ)
    (howed : ∀ c t, (pdats m p c).owed t = 0) (hrec : ∀ c, (pdats m p c).recorded 0 = Set.univ)
    (hshare : ∀ c w, (pdats m p c).share w = fullShare)
    (hin : ∀ c, Pipeline.ΦA (pin (pcfgs (F := F)) adm p).spec c ⊢ (pdats m p c).Φ 0)
    (hout : ∀ c, (pdats m p c).Φ (Fin.last (cfgs p).N) ⊢ Pipeline.ΦA (pin (pcfgs (F := F)) adm p).spec c)
    (W W' : Dev nD → Valuation τ sig (Elt F))
    (hW : ∀ c w, (pdats m p c).A w = W c (arrRef (pin (pcfgs (F := F)) adm p).spec w))
    (hW' : ∀ c w, (pdats m p c).arrAt w (cfgs p).N = W' c (arrRef (pin (pcfgs (F := F)) adm p).spec w))
    (hrest : ∀ c (b : Ref sig .tc), b ∉ Finset.univ.image (arrRef (pin (pcfgs (F := F)) adm p).spec) → W' c b = W c b) :
    RegionSeg (pcfgs (F := F)) adm (pdats m) () defs₀ Variants.none L lv p where
  win := kit.win.to₀
  block_pos := kit.block_pos
  stage_whole := kit.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (W c) ∗ E c)
  post c := iprop(StableHlo.held (c : Thread nD τ) (Pipeline.ucRefs τ sig) (W' c) ∗ E c)
  X c := iprop(∃ r, prngReg c r)
  Y c := iprop(∃ r, prngReg c r)
  Z c := Pipeline.unscopedRest (pcfgs (F := F) p).spec c (fun b => W c b)
  hentry c := by
    rw [Pipeline.ownSems0_none, Pipeline.prefHeld_of_none _ hK, ← Pipeline.unscopedBufs_held c (W c)]
    have hsplit := Pipeline.arrays_of_unscopedBufs (pcfgs (F := F)) adm (pdats m) kit.win kit.arr_whole c (hshare c)
      (fun b => W c b) (hW c)
    iintro ⟨⟨Hub, HO, Hp⟩, -, -⟩
    ihave H := hsplit $$ Hub
    icases H with ⟨Ha, Hr⟩
    imodintro
    isplitl [Ha]; · iexact Ha
    isplitr; · iempintro
    isplitl [HO]
    · unfold Dat.owesAt Pipeline.owesWithin Dat.bound
      rw [howed c 0, hrec c]
      icases HO with ⟨%W, HO⟩; iexists W; isplitr; · ipureintro; exact fun _ _ => Or.inl trivial
      iexact HO
    isplitl [Hp]; · iexact Hp
    iexact Hr
  hin c := (show _ ⊢ Pipeline.ΦA (pin (pcfgs (F := F)) adm p).spec c from by
    unfold Pipeline.ΦA
    iintro ⟨Hp, -, Hr⟩
    isplitl [Hr]; · iexact Hr
    iexact Hp).trans (hin c)
  hout c := (hout c).trans (by
    rw [Pipeline.ownSems0_none]
    unfold Pipeline.ΦA
    iintro ⟨Hr, Hp⟩
    isplitl [Hp]; · iexact Hp
    isplitr; · iempintro
    iexact Hr)
  hexit c := by
    rw [← Pipeline.unscopedBufs_held c (W' c)]
    have hjoin := Pipeline.unscopedBufs_of_arrays (pcfgs (F := F)) adm kit.win kit.arr_whole c (pdats m) (hshare c)
      (fun b => W c b) (fun b => W' c b) ((pdats m p c).arrAt · (cfgs p).N) (hW' c) (hrest c)
    iintro ⟨Ha, HO, Hp, HZ⟩
    ihave H := hjoin $$ [Ha HZ]
    · isplitl [Ha]; · iexact Ha
      iexact HZ
    imodintro
    isplitl [H]; · iexact H
    isplitl [HO]
    · unfold Dat.owesAt Pipeline.owesWithin
      rw [howed c (Fin.last _)]
      icases HO with ⟨%W, -, HO⟩; iexists W; iexact HO
    iexact Hp

/-! ## The two regions -/

/-- The statistics region: from the reshaped targets to the losses. -/
def reg0 : RegionSeg (pcfgs (F := F)) adm (pdats m) () defs₀ Variants.none L lv 0 :=
  region m 0 launch0 rfl (fun c => Stats.obligation _ c) (fun _ _ => rfl) (fun _ => rfl)
    (fun c => Dat.share_full _ fun _ => rfl)
    (fun c => Stats.Φ_first _ c) (fun c => Stats.Φ_last _ c) (V1 m) (V2 m (outs m))
    (fun c w => Stats.A_eq (fun c b => V1 m c b) c w)
    (fun c w => by
      match w with
      | ⟨0, _⟩ => exact ((Stats.dat (fun c b => V1 m c b) c).arrAt_in 0 rfl _).trans (V2_of m (outs m) c main_arg0 (by decide)).symm
      | ⟨1, _⟩ => exact ((Stats.dat (fun c b => V1 m c b) c).arrAt_in 1 rfl _).trans (V2_of m (outs m) c main_call0_v0 (by decide)).symm
      | ⟨2, _⟩ => exact (V2_out m c).symm)
    (fun c b hb => V2_of m (outs m) c b fun h => hb (by
      rw [List.mem_singleton.mp h]; exact Finset.mem_image.mpr ⟨2, Finset.mem_univ _, rfl⟩))

/-- The top-k region: from the losses, as a row and as a column, to their top-512 mean. -/
def reg1 : RegionSeg (pcfgs (F := F)) adm (pdats m) () defs₀ Variants.none L lv 1 :=
  region m 1 launch1 rfl (fun c => (Topk.obligation _ c).loose) (fun _ _ => rfl) (fun _ => rfl)
    (fun c => Dat.share_full _ fun _ => rfl)
    (fun c => .rfl) (fun c => .rfl) (V3 m (outs m)) (V4 m (outs m))
    (fun c w => Topk.A_eq (fun c b => V3 m (outs m) c b) c w)
    (fun c w => by
      match w with
      | ⟨0, _⟩ => exact ((Topk.dat (fun c b => V3 m (outs m) c b) c).arrAt_in 0 rfl _).trans (V4_of m (outs m) c main_call0_v2 (by decide)).symm
      | ⟨1, _⟩ => exact ((Topk.dat (fun c b => V3 m (outs m) c b) c).arrAt_in 1 rfl _).trans (V4_of m (outs m) c main_call0_v1 (by decide)).symm
      | ⟨2, _⟩ => exact (V4_out m c).symm)
    (fun c b hb => V4_of m (outs m) c b fun h => hb (by
      rw [List.mem_singleton.mp h]; exact Finset.mem_image.mpr ⟨2, Finset.mem_univ _, rfl⟩))

/-! ## The run -/

variable (ρ : Dev nD → PrngReg)

/-- What a final state holds: the arguments as launched, the result as computed. -/
def Post (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v0) = V5 m (outs m) c main_v0

/-- A buffer of the whole program is among those held between its items. -/
theorem mem_ucRefs (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

/-- The last contents, held, are what a final state's memory reads. -/
theorem read_end (c : Dev nD) (s : Phys nD τ sig (Elt F)) :
    iprop(StableHlo.held (c : Thread nD τ) (Pipeline.ucRefs τ sig) (V5 m (outs m) c) ∗ SI s)
      ⊢ (|={Set.univ}=> iprop(⌜Post m c s.mem⌝ ∗ SI s) : sProp 𝕄) := by
  unfold StableHlo.held
  iintro ⟨Hh, HSI⟩
  ihave Hr := (pointsTo_read_all (Pipeline.ucRefs τ sig) (fun b => ((c : Thread nD τ).1, b)) (V5 m (outs m) c) s) $$ [Hh HSI]
  · isplitl [Hh] <;> iassumption
  icases Hr with ⟨%h, HSI⟩
  imodintro
  isplitr
  · ipureintro
    exact ⟨(h _ (mem_ucRefs main_arg0 rfl)).trans (V5_main_arg0 m (outs m) c),
      (h _ (mem_ucRefs main_arg1 rfl)).trans (V5_main_arg1 m (outs m) c), h _ (mem_ucRefs main_v0 rfl)⟩
  · iexact HSI

set_option backward.isDefEq.respectTransparency.types false in
/-- From any memory with zero counters every weakly fair run ends with the arguments as launched, the result as
    computed and every counter at zero. -/
theorem run : θ_run defs (onTc (τ := τ) (main (F := F))) ⟨m, fun _ => 0, ρ⟩
    (fun r => (∀ c : Dev nD, Post m c r.2) ∧ r.2.sem = fun _ => 0) :=
  Pipeline.θ_run_regions_kit_dev_sems (pcfgs (F := F)) adm (pdats m) () cellOf_inj EP defs₀ Variants.none L lv m ρ main
    (segs m (outs m) Variants.none L lv (fun _ => E) () (pdats m) (reg0 m) (reg1 m))
    (fun c Q => by
      rewrite [main_chain c, Pipeline.Seg.run_eq_chain]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E c))
    (Tₙ := fun c => StableHlo.held (c : Thread nD τ) (Pipeline.ucRefs τ sig) (V5 m (outs m) c))
    (hch := fun c => ⟨.rfl, .rfl, .rfl, .rfl, .rfl, sep_mono .rfl (by iintro ⟨HO, -⟩; iexact HO)⟩)
    (hinit := by
      refine Pipeline.initEach L lv fun c => ?_
      rw [show unscopedBufs c (fun b => m ((c : Thread nD τ).loc b)) = StableHlo.held (c : Thread nD τ) (Pipeline.ucRefs τ sig) (V0 m c) from
        Pipeline.unscopedBufs_held c (V0 m c)]
      iintro ⟨⟨Hh, -, HO, -, Hp, -⟩, -⟩
      imodintro
      isplitl [Hh]; · iexact Hh
      isplitl [HO]; · iexists ∅; iexact HO
      iexists _; iexact Hp)
    (QY := Post m) (hfin := fun c s => read_end m c s)
    (hQ := fun _ h hz => ⟨h, funext fun g => hz g (.inr (regions_no_unscoped g.2))⟩)

/-- In particular the run ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun _ h => ⟨fun c => ⟨(h.1 c).1, (h.1 c).2.1⟩, h.2⟩) (run m ρ)

end Cert.Proof.Run

end
-- ==== Proof.KernelFrame.lean ====
module

public import proofs.«01_k».proof.Proof.KernelRun
public import proofs.«01_k».proof.Proof.Gen.Kernel
public import proofs.«01_k».proof.Defs

@[expose] public section

/-!
The kernel over the machine's floats: the same program with the two weights read as the words they are. Its run is the
run proved for every reading of the floats.
-/

set_option maxRecDepth 16384

noncomputable section

namespace Cert.Proof.Frames

open Idealize.ShloMosaic Idealize.SL.Sem

/-- A named constant, over the machine's floats, is the word it stands for. -/
local instance : Named Bits := ⟨fun _ _ _ bits => FloatOps.ofBits _ bits⟩

/-- The two programs run the same kernel bodies, -/
theorem bodies_eq : Cert.Kernel.defs₀ (F := Bits) = Cert.KernelIdeal.defs₀ (F := Bits) := by
  unfold Cert.Kernel.defs₀ Cert.KernelIdeal.defs₀
  congr 1
  funext l
  match l with
  | 0 => rfl
  | 1 => rfl

/-- in the same pipelines. -/
theorem defs_eq : Cert.Kernel.defs (F := Bits) = Cert.KernelIdeal.defs (F := Bits) := by
  unfold Cert.Kernel.defs Cert.KernelIdeal.defs
  rw [bodies_eq]
  rfl

/-- The kernel as printed ends, its arguments unchanged, every counter at zero. -/
theorem kernel_frame : Cert.quiescent_Kernel (hKernel := Cert.Kernel.Gen.facts) := fun m g _ => by
  rw [defs_eq]
  exact Run.frame (F := Bits) m g

end Cert.Proof.Frames

end
-- ==== Proof.RefStages.lean ====
module

public import proofs.«01_k».proof.Proof.Gen.ReferenceIdeal.Run
public import Idealize.ShloMosaic.Lib.Pointwise

@[expose] public section

/-!
The reference's result, cut into its stages: the log-probabilities, the target's own, the losses, the order of the
losses, and the mean of the first 512 in that order.
-/

set_option maxRecDepth 16384

noncomputable section

namespace Cert.Proof.Ref

open Cert.ReferenceIdeal Cert.ReferenceIdeal.Facts₀ Cert.ReferenceIdeal.Facts
open Idealize.ShloMosaic Idealize.ShloMosaic.TcCoe

/-- The largest prediction of each row. -/
def rowMax (x : FVec Ideal S1024x100000 .f32) : FVec Ideal S1024 .f32 :=
  Host.reduce FloatOps.maximumf x (constant S_ .f32 0xFF800000#32) reducesTo_S1024x100000_S1024_d1 h_S_

/-- The predictions less their row's largest. -/
def shifted (x : FVec Ideal S1024x100000 .f32) : FVec Ideal S1024x100000 .f32 :=
  subf x (broadcastInDim S1024x100000 ![0, 1] bcast_S1024x1_S1024x100000_0_1
    (broadcastInDim S1024x1 ![0] bcast_S1024_S1024x1_0
      (maximumf (broadcastInDim S1024 ![] bcast_S_S1024 (constant S_ .f32 0xFF800000#32))
        (rowMax x))))

/-- The log-probabilities, of the shifted predictions. -/
def logp (s : FVec Ideal S1024x100000 .f32) : FVec Ideal S1024x100000 .f32 :=
  subf s (broadcastInDim S1024x100000 ![0, 1] bcast_S1024x1_S1024x100000_0_1
    (Host.log (broadcastInDim S1024x1 ![0] bcast_S1024_S1024x1_0
      (Host.reduceAdd (Host.exp s) (constant S_ .f32 0x00000000#32) reducesTo_S1024x100000_S1024_d1 h_S_))))

/-- The targets, one from the end where negative. -/
def wrapped (tg : IVec S1024 32) : IVec S1024x1x1 32 :=
  shapeCast _ (select
      (cmpi .slt (broadcastInDim S1024x1 ![0] bcast_S1024_S1024x1_0 tg) (broadcastInDim S1024x1 ![] bcast_S_S1024x1 (constantI S_ 32 0#32)))
      (addi (broadcastInDim S1024x1 ![0] bcast_S1024_S1024x1_0 tg) (broadcastInDim S1024x1 ![] bcast_S_S1024x1 (constantI S_ 32 100000#32)))
      (broadcastInDim S1024x1 ![0] bcast_S1024_S1024x1_0 tg)) shapeCasts_S1024x1_S1024x1x1

/-- Whether each is a column. -/
def inside (w : IVec S1024x1x1 32) : IVec S1024x1 1 :=
  Host.reduce IntOp.andi
    (andi (cmpi .sge w (broadcastInDim S1024x1x1 ![] bcast_S_S1024x1x1 (constantI S_ 32 0#32)))
      (cmpi .sle w (broadcastInDim S1024x1x1 ![0, 1, 2] bcast_S1x1x1_S1024x1x1_0_1_2
        (broadcastInDim S1x1x1 ![2] bcast_S1_S1x1x1_2 (constantI S1 32 99999#32)))))
    (constantI S_ 1 1#1) reducesTo_S1024x1x1_S1024x1_d2 h_S_

/-- The target's own log-probability. -/
def picked (l : FVec Ideal S1024x100000 .f32) (w : IVec S1024x1x1 32) : FVec Ideal S1024x1 .f32 :=
  select (inside w) (Host.gather gather_S1024x100000_S1024x1x1_S1024x1_n_1_0_0_1_2_11 l w)
    (broadcastInDim S1024x1 ![] bcast_S_S1024x1 (constant S_ .f32 0x7FC00000#32))

/-- The smoothing constant. -/
def tenth : FVec Ideal S_ .f32 := Host.divf (constant S_ .f32 0x3F800000#32) (constant S_ .f32 0x41200000#32)

/-- The losses. -/
def loss (l : FVec Ideal S1024x100000 .f32) (p : FVec Ideal S1024x1 .f32) : FVec Ideal S1024 .f32 :=
  addf
    (mulf (broadcastInDim S1024 ![] bcast_S_S1024 (id (subf (constant S_ .f32 0x3F800000#32) tenth)))
      (Host.negf (shapeCast _ p shapeCasts_S1024x1_S1024)))
    (mulf (broadcastInDim S1024 ![] bcast_S_S1024 (id tenth))
      (Host.negf (Host.divf
        (Host.reduceAdd l (constant S_ .f32 0x00000000#32) reducesTo_S1024x100000_S1024_d1 h_S_)
        (broadcastInDim S1024 ![] bcast_S_S1024 (constant S_ .f32 0x47C35000#32)))))

/-- The first 512 places of the losses in descending order. -/
def order (z : FVec Ideal S1024 .f32) : IVec S512 32 :=
  extractStridedSlice S512 ![0]
    ((Host.sort2 S1024 0 comparator_f32_i32_d0 (Host.negf z) (iotaInDim S1024 32 0)).2) slices_S1024_S512_0

/-- The mean of the losses at given places. -/
def mean (z : FVec Ideal S1024 .f32) (idx : IVec S512 32) : FVec Ideal S_ .f32 :=
  Host.divf
    (Host.reduceAdd
      (Host.gather gather_S1024_S512x1_S512_n_0_n_n_0_1_1 z
        (broadcastInDim S512x1 ![0] bcast_S512_S512x1_0
          (select (cmpi .slt idx (broadcastInDim S512 ![] bcast_S_S512 (constantI S_ 32 0#32)))
            (addi idx (broadcastInDim S512 ![] bcast_S_S512 (constantI S_ 32 1024#32))) idx)))
      (constant S_ .f32 0x00000000#32) reducesTo_S512_S_d0 h_S_)
    (constant S_ .f32 0x44000000#32)

/-- The losses of the arguments. -/
def losses (x : FVec Ideal S1024x100000 .f32) (tg : IVec S1024 32) : FVec Ideal S1024 .f32 := loss (logp (shifted x)) (picked (logp (shifted x)) (wrapped tg))

/-- The reference's result is its stages composed. -/
theorem result_eq (m : (ℓ : Loc nD τ sig) → Buf (Elt Ideal) ℓ) (c : Dev nD) :
    Value.res_main_v29 m c
      = mean (losses (m ((c.tc : Thread nD τ).loc main_arg0)) (m ((c.tc : Thread nD τ).loc main_arg1)))
          (order (losses (m ((c.tc : Thread nD τ).loc main_arg0)) (m ((c.tc : Thread nD τ).loc main_arg1)))) := by
  unfold Value.res_main_v29 mean order losses loss picked inside wrapped logp shifted rowMax tenth
  rfl

end Cert.Proof.Ref

end
-- ==== Proof.RefWords.lean ====
module

public import Idealize.ShloMosaic.Lib.Pointwise
public import Idealize.ShloMosaic.Lib.WordCmp

@[expose] public section

/-!
Words below 2³¹: they are not negative, so a wrap from the end leaves them, and they read signed as they read unsigned.
-/

namespace Cert.Proof.RefWords

open Idealize.ShloMosaic

theorem toInt_eq (b : BitVec 32) (h : b.toNat < 2147483648) : b.toInt = (b.toNat : Int) := by
  rw [BitVec.toInt_eq_toNat_cond, if_pos (by omega)]

theorem slt_zero (b : BitVec 32) (h : b.toNat < 2147483648) : IntOp.cmpi .slt b 0#32 = 0#1 := by
  have ht := toInt_eq b h
  show BitVec.ofBool (b.slt 0#32) = 0#1
  have : b.slt 0#32 = false := by
    rw [BitVec.slt, decide_eq_false_iff_not, ht]
    simp
  rw [this]; rfl

/-- A wrap from the end leaves a word that is not negative. -/
theorem wrap_eq (b y : BitVec 32) (h : b.toNat < 2147483648) : Scalar.select (IntOp.cmpi .slt b 0#32) y b = b := by
  rw [slt_zero b h]; rfl

theorem toNat_eq (b : BitVec 32) (h : b.toNat < 2147483648) : b.toInt.toNat = b.toNat := by
  rw [toInt_eq b h]; rfl

theorem sge_zero (b : BitVec 32) (h : b.toNat < 2147483648) : IntOp.cmpi .sge b 0#32 = 1#1 := by
  have ht := toInt_eq b h
  show BitVec.ofBool ((0#32).sle b) = 1#1
  have : (0#32).sle b = true := by
    rw [BitVec.sle, decide_eq_true_iff, ht]
    simp
  rw [this]; rfl

theorem sle_last (b : BitVec 32) (h : b.toNat < 100000) : IntOp.cmpi .sle b 99999#32 = 1#1 := by
  have ht := toInt_eq b (by omega)
  show BitVec.ofBool (b.sle 99999#32) = 1#1
  have : b.sle 99999#32 = true := by
    rw [BitVec.sle, decide_eq_true_iff, ht, toInt_eq _ (by decide)]
    simp
    omega
  rw [this]; rfl

/-- A word at least 0 and below 100000, both read signed, is below 100000. -/
theorem lt_of_signed (b : BitVec 32) (h0 : IntOp.cmpi .sge b 0#32 = 1#1) (h1 : IntOp.cmpi .slt b 100000#32 = 1#1) :
    b.toNat < 100000 := by
  have h0 : BitVec.ofBool ((0#32).sle b) = 1#1 := h0
  have h1 : BitVec.ofBool (b.slt 100000#32) = 1#1 := h1
  have h0 : (0#32).sle b = true := by revert h0; cases (0#32).sle b <;> simp
  have h1 : b.slt 100000#32 = true := by revert h1; cases b.slt 100000#32 <;> simp
  rw [BitVec.sle, decide_eq_true_iff] at h0
  rw [BitVec.slt, decide_eq_true_iff, toInt_eq 100000#32 (by decide)] at h1
  have hz : (0#32).toInt = 0 := rfl
  have hn : (100000#32).toNat = 100000 := rfl
  have hb := b.isLt
  have hc := BitVec.toInt_eq_toNat_cond b
  rw [hz] at h0
  rw [hn] at h1
  split at hc <;> omega

end Cert.Proof.RefWords

end
-- ==== Proof.TopSum.lean ====
module

public import Mathlib.Data.EReal.Operations
public import Mathlib.Algebra.BigOperators.Group.Finset.Basic
public import Mathlib.Algebra.BigOperators.Group.Finset.Piecewise
public import Mathlib.Data.Fintype.Card
public import Mathlib.Data.Fintype.BigOperators
public import Mathlib.Order.Interval.Finset.Fin
public import Mathlib.Data.Fintype.Fin
public import Mathlib.Algebra.BigOperators.Ring.Finset

@[expose] public section

/-!
The sum of the `n` largest members of a family does not depend on how they are chosen: by counting how many stand
before each member, or by taking the first `n` of any ordering in which no smaller one comes before a larger.
-/

namespace Cert.Proof.TopSum

open Finset

/-- A set of indices dominates when no index outside it has a larger value than one inside. -/
def Dominates {ι : Type} {α : Type} [LinearOrder α] (f : ι → α) (S : Finset ι) : Prop :=
  ∀ i ∈ S, ∀ j, j ∉ S → f j ≤ f i

/-- Two dominating sets of the same size have the same sum: where they differ all the values are one value. -/
theorem sum_eq_of_dominates {ι : Type} [DecidableEq ι] {α : Type} [LinearOrder α] [AddCommMonoid α]
    (f : ι → α) (S T : Finset ι) (hS : Dominates f S) (hT : Dominates f T) (hcard : S.card = T.card) :
    ∑ i ∈ S, f i = ∑ i ∈ T, f i := by
  have hc : (S \ T).card = (T \ S).card := Finset.card_sdiff_comm hcard
  rw [← Finset.sum_inter_add_sum_sdiff S T f, ← Finset.sum_inter_add_sum_sdiff T S f, Finset.inter_comm T S]
  congr 1
  have hle : ∀ i ∈ S \ T, ∀ j ∈ T \ S, f i = f j := fun i hi j hj => by
    rw [Finset.mem_sdiff] at hi hj
    exact le_antisymm (hT j hj.1 i hi.2) (hS i hi.1 j hj.2)
  rcases Finset.eq_empty_or_nonempty (S \ T) with h | ⟨a, ha⟩
  · have h' : T \ S = ∅ := by rw [← Finset.card_eq_zero, ← hc, h, Finset.card_empty]
    rw [h, h']
  · have hne : (T \ S).Nonempty := by
      rw [← Finset.card_pos, ← hc]; exact Finset.card_pos.mpr ⟨a, ha⟩
    obtain ⟨b, hb⟩ := hne
    rw [Finset.sum_congr rfl (fun i hi => hle i hi b hb),
      Finset.sum_congr (g := fun _ => f b) (s₁ := T \ S) rfl (fun j hj => (hle a ha j hj).symm.trans (hle a ha b hb)),
      Finset.sum_const, Finset.sum_const, hc]

variable {n : ℕ} (f : Fin n → EReal)

/-- Member `k` stands before member `i`: its value is larger, or it is the same and `k` is the earlier index. -/
def Before (k i : Fin n) : Prop := f i < f k ∨ (f k = f i ∧ k < i)

theorem Before.trans {f : Fin n → EReal} {a b c : Fin n} (h : Before f a b) (h' : Before f b c) : Before f a c := by
  rcases h with h | ⟨h, hlt⟩ <;> rcases h' with h' | ⟨h', hlt'⟩
  · exact .inl (h'.trans h)
  · exact .inl (h' ▸ h)
  · exact .inl (h ▸ h')
  · exact .inr ⟨h.trans h', hlt.trans hlt'⟩

theorem Before.irrefl {f : Fin n → EReal} {a : Fin n} : ¬Before f a a := fun h => by
  rcases h with h | ⟨_, h⟩ <;> exact lt_irrefl _ h

theorem Before.total {f : Fin n → EReal} {a b : Fin n} (h : a ≠ b) : Before f a b ∨ Before f b a := by
  rcases lt_trichotomy (f a) (f b) with h' | h' | h'
  · exact .inr (.inl h')
  · rcases lt_or_gt_of_ne h with h'' | h''
    · exact .inl (.inr ⟨h', h''⟩)
    · exact .inr (.inr ⟨h'.symm, h''⟩)
  · exact .inl (.inl h')

open Classical in
/-- How many members stand before `i`. -/
noncomputable def rank (i : Fin n) : ℕ := (Finset.univ.filter fun k => Before f k i).card

theorem rank_lt (i : Fin n) : rank f i < n := by
  classical
  have h : (Finset.univ.filter fun k => Before f k i) ⊂ Finset.univ :=
    Finset.ssubset_univ_iff.mpr fun h => by
      have hi : i ∈ Finset.univ.filter fun k => Before f k i := by rw [h]; exact Finset.mem_univ i
      exact Before.irrefl (Finset.mem_filter.mp hi).2
  have := Finset.card_lt_card h
  rw [Finset.card_univ, Fintype.card_fin] at this
  unfold rank; convert this

theorem rank_lt_of_before {a b : Fin n} (h : Before f a b) : rank f a < rank f b := by
  classical
  unfold rank
  refine Finset.card_lt_card ((Finset.ssubset_iff_of_subset fun k hk => ?_).mpr ⟨a, ?_, ?_⟩)
  · exact Finset.mem_filter.mpr ⟨Finset.mem_univ _, ((Finset.mem_filter.mp hk).2).trans h⟩
  · exact Finset.mem_filter.mpr ⟨Finset.mem_univ _, h⟩
  · exact fun ha => Before.irrefl (Finset.mem_filter.mp ha).2

theorem rank_injective : Function.Injective fun i : Fin n => (⟨rank f i, rank_lt f i⟩ : Fin n) := fun a b h => by
  by_contra hne
  have h' : rank f a = rank f b := congrArg Fin.val h
  rcases Before.total (f := f) hne with hb | hb
  · exact absurd h' (rank_lt_of_before f hb).ne
  · exact absurd h' (rank_lt_of_before f hb).ne'

/-- The members with fewer than `p` before them. -/
noncomputable def firsts (p : ℕ) : Finset (Fin n) := Finset.univ.filter fun i => rank f i < p

theorem firsts_card {p : ℕ} (hp : p ≤ n) : (firsts f p).card = p := by
  have hb := (Finite.injective_iff_bijective.mp (rank_injective f))
  have : (firsts f p).card = (Finset.univ.filter fun j : Fin n => j.val < p).card :=
    Finset.card_bij (fun i _ => ⟨rank f i, rank_lt f i⟩)
      (fun i hi => Finset.mem_filter.mpr ⟨Finset.mem_univ _, (Finset.mem_filter.mp hi).2⟩)
      (fun a _ b _ h => rank_injective f h)
      (fun j hj => by
        obtain ⟨i, hi⟩ := hb.2 j
        refine ⟨i, Finset.mem_filter.mpr ⟨Finset.mem_univ _, ?_⟩, hi⟩
        have : rank f i = j.val := congrArg Fin.val hi
        rw [this]; exact (Finset.mem_filter.mp hj).2)
  rw [this, Fin.card_filter_val_lt, Nat.min_eq_right hp]

theorem firsts_dominates (p : ℕ) : Dominates f (firsts f p) := fun i hi j hj => by
  by_contra h
  have hb : Before f j i := .inl (not_le.mp h)
  have h1 := rank_lt_of_before f hb
  have h2 := (Finset.mem_filter.mp hi).2
  exact hj (Finset.mem_filter.mpr ⟨Finset.mem_univ _, h1.trans h2⟩)

/-- The first `p` places of an ordering in which no smaller value comes before a larger one, summed. -/
theorem sum_ordering {p : ℕ} (hp : p ≤ n) (σ : Fin n → Fin n) (hinj : Function.Injective σ)
    (hord : ∀ i j : Fin n, i < j → f (σ j) ≤ f (σ i)) :
    ∑ k : Fin p, f (σ (Fin.castLE hp k)) = ∑ i ∈ firsts f p, f i := by
  classical
  have hinj' : Function.Injective fun k : Fin p => σ (Fin.castLE hp k) :=
    hinj.comp (Fin.castLE_injective hp)
  have hb := (Finite.injective_iff_bijective.mp hinj)
  rw [show ∑ k : Fin p, f (σ (Fin.castLE hp k)) = ∑ i ∈ Finset.univ.map ⟨_, hinj'⟩, f i from
    (Finset.sum_map Finset.univ ⟨_, hinj'⟩ f).symm]
  refine sum_eq_of_dominates f _ _ ?_ (firsts_dominates f p) ?_
  · intro i hi j hj
    obtain ⟨a, -, ha⟩ := Finset.mem_map.mp hi
    obtain ⟨b, rfl⟩ := hb.2 j
    have ha' : σ (Fin.castLE hp a) = i := ha
    rw [← ha']
    refine hord _ _ ?_
    by_contra hlt
    have hle : b.val ≤ a.val := not_lt.mp hlt
    refine hj (Finset.mem_map.mpr ⟨⟨b.val, lt_of_le_of_lt hle a.isLt⟩, Finset.mem_univ _, ?_⟩)
    rfl
  · rw [Finset.card_map, Finset.card_univ, Fintype.card_fin, firsts_card f hp]

/-- The count of members before `i`, taken in two parts over the extended reals, is the rank. -/
theorem count_eq (i : Fin n) :
    (∑ k : Fin n, ((if f i < f k then (1 : EReal) else 0) + (if f k = f i ∧ k < i then 1 else 0)))
      = ((rank f i : ℝ) : EReal) := by
  classical
  have h : ∀ k : Fin n, ((if f i < f k then (1 : EReal) else 0) + (if f k = f i ∧ k < i then 1 else 0))
      = if Before f k i then 1 else 0 := fun k => by
    unfold Before
    by_cases h1 : f i < f k
    · rw [if_pos h1, if_neg (fun h => absurd h.1 h1.ne'), if_pos (.inl h1), add_zero]
    · by_cases h2 : f k = f i ∧ k < i
      · rw [if_neg h1, if_pos h2, if_pos (.inr h2), zero_add]
      · rw [if_neg h1, if_neg h2, if_neg (not_or.mpr ⟨h1, h2⟩), add_zero]
  rw [Finset.sum_congr rfl fun k _ => h k, ← Finset.sum_filter, Finset.sum_const, nsmul_one]
  unfold rank
  rw [EReal.coe_natCast]

/-- So the sum over the members whose count is below `p` is the sum over the firsts. -/
theorem sum_count (p : ℕ) :
    (∑ i : Fin n, if (∑ k : Fin n, ((if f i < f k then (1 : EReal) else 0) + (if f k = f i ∧ k < i then 1 else 0)))
        < ((p : ℝ) : EReal) then f i else 0) = ∑ i ∈ firsts f p, f i := by
  unfold firsts
  rw [Finset.sum_filter]
  refine Finset.sum_congr rfl fun i _ => ?_
  rw [count_eq]
  refine if_congr ?_ rfl rfl
  rw [EReal.coe_lt_coe_iff, Nat.cast_lt]

end Cert.Proof.TopSum

end
-- ==== Proof.RefOrder.lean ====
module

public import proofs.«01_k».proof.Proof.RefStages
public import Idealize.ShloMosaic.Lib.SortFacts
public import Idealize.ShloMosaic.Lib.StableHlo.Predicate
public import proofs.«01_k».proof.Proof.RefWords
public import proofs.«01_k».proof.Proof.TopSum

@[expose] public section

/-!
The order in which the reference takes the losses: largest first.
-/

set_option maxRecDepth 16384

noncomputable section

namespace Cert.Proof.Ref

open Cert.ReferenceIdeal Cert.ReferenceIdeal.Facts₀ Cert.ReferenceIdeal.Facts
open Idealize.ShloMosaic Idealize.ShloMosaic.TcCoe

/-- Over the extended reals the sort's comparator compares the keys. -/
theorem comparator_at (a b : Ideal .f32 × BitVec 32) :
    comparator_f32_i32_d0 (F := Ideal) a b = BitVec.ofBool (decide ((a.1 : EReal) < b.1)) := by
  have key : ∀ y : EReal, Scalar.select (Ideal.cmp .une y y) (Ideal.ofBits .f32 0x7FC00000#32)
      (Scalar.select (Ideal.cmp .oeq y (Ideal.ofBits .f32 0#32)) (Ideal.ofBits .f32 0#32) y) = y := fun y => by
    have hne : ¬Ideal.cmp .une y y = 1#1 := by simp [Ideal.cmp]
    have h0 : Ideal.ofBits .f32 0#32 = 0 := by simp [Ideal.ofBits, Ideal.ieee]
    rw [h0]
    refine (if_neg hne).trans ?_
    by_cases h : Ideal.cmp .oeq y 0 = 1#1
    · refine (if_pos h).trans ?_
      have : y = 0 := by simpa [Ideal.cmp, WordCmp.ofBool_decide_eq_one_iff] using h
      exact this.symm
    · exact if_neg h
  exact (congrArg₂ (Ideal.cmp .olt) (key a.1) (key b.1)).trans rfl

/-- One loss comes before another in the sort when it is larger. -/
def before (z : FVec Ideal S1024 .f32) (k k' : Fin 1024) : Bool := decide (-(z (ix1 k) : EReal) < -z (ix1 k'))

/-- The place in the array of each place in the order. -/
def src (z : FVec Ideal S1024 .f32) : Fin 1024 → Fin 1024 := sortedFrom (before z)

theorem src_injective (z : FVec Ideal S1024 .f32) : Function.Injective (src z) := sortedFrom_injective _

/-- No smaller loss comes before a larger one. -/
theorem src_ordered (z : FVec Ideal S1024 .f32) (i j : Fin 1024) (h : i < j) :
    (z (ix1 (src z j)) : EReal) ≤ z (ix1 (src z i)) := by
  have := sortedFrom_noInversion (before z) (before z)
    (fun a b h => by
      unfold before at *
      exact decide_eq_false (lt_asymm (of_decide_eq_true h)))
    (fun _ _ h => h)
    (fun a b c h h' => by
      unfold before at *
      exact decide_eq_false (not_lt.mpr ((not_lt.mp (of_decide_eq_false h')).trans (not_lt.mp (of_decide_eq_false h)))))
    i j h
  have h' := not_lt.mp (of_decide_eq_false this)
  exact EReal.neg_le_neg_iff.mp h'

/-- A sort of a vector and another carried along, the other's element at a place. -/
theorem sort2_at {α β : Type} (cmp : α × β → α × β → BitVec 1) (x : S1024.Idx → α) (y : S1024.Idx → β) (j : S1024.Idx) :
    (Host.sort2 S1024 0 cmp x y).2 j
      = y (.ofFin (sortedFrom (fun k k' => cmp (x (.ofFin k), y (.ofFin k)) (x (.ofFin k'), y (.ofFin k')) == 1#1) (j 0))) := by
  unfold Host.sort2
  rw [dif_pos (by decide)]
  have hal : ∀ k : Fin 1024, j.along (0 : Fin 1) k = .ofFin k := Shape.Idx.along_rank1 j
  show y (j.along (0 : Fin 1) (sortedFrom (fun k k' : Fin 1024 => cmp (x (j.along (0 : Fin 1) k), y (j.along (0 : Fin 1) k))
    (x (j.along (0 : Fin 1) k'), y (j.along (0 : Fin 1) k')) == 1#1) (j 0))) = _
  simp only [hal]
  exact congrArg y (hal _)

theorem ofFin_eq {n : ℕ} (k : Fin n) : (Shape.Idx.ofFin k : (⟨1, ![n]⟩ : Shape).Idx) = ix1 k := by
  funext a
  obtain rfl : a = 0 := Subsingleton.elim _ _
  rfl

theorem iota_at (k : Fin 1024) : iotaInDim S1024 32 0 (ix1 k) = BitVec.ofNat 32 k.val := rfl

/-- The order's places, as words. -/
theorem order_at (z : FVec Ideal S1024 .f32) (k : Fin 512) :
    order z (ix1 k) = BitVec.ofNat 32 (src z (Fin.castLE (by decide) k)).val := by
  pointwise [order]
  refine (sort2_at _ _ _ _).trans ?_
  have hb : (fun k k' : Fin 1024 => comparator_f32_i32_d0 (F := Ideal)
      (Host.negf z (.ofFin k), iotaInDim S1024 32 0 (.ofFin k)) (Host.negf z (.ofFin k'), iotaInDim S1024 32 0 (.ofFin k')) == 1#1)
        = before z := by
    funext k k'
    rw [comparator_at, ofFin_eq, ofFin_eq]
    unfold before
    show (BitVec.ofBool (decide (-(z (ix1 k) : EReal) < -z (ix1 k'))) == 1#1) = _
    by_cases h : (-(z (ix1 k) : EReal) < -z (ix1 k'))
    · simp [h]
    · simp [h]
  rw [hb, ofFin_eq]
  exact (iota_at _).trans (congrArg (fun i => BitVec.ofNat 32 (src z i).val) (Fin.ext rfl))

theorem column_at (k : Fin 512) : (StableHlo.Predicate.ixP k : S512x1.Idx) = ix2 k 0 := by
  funext a
  match a with
  | ⟨0, _⟩ => rfl
  | ⟨1, _⟩ => rfl

/-- One of the elements taken at places that are row numbers. -/
theorem take_at (z : FVec Ideal S1024 .f32) (ic : IVec S512x1 32) (k : Fin 512) (i : Fin 1024)
    (h : ic (ix2 k 0) = BitVec.ofNat 32 i.val) :
    Host.gather gather_S1024_S512x1_S512_n_0_n_n_0_1_1 z ic (ix1 k) = z (ix1 i) := by
  have hlt := i.isLt
  have hw : (BitVec.ofNat 32 i.val).toNat = i.val := WordCmp.toNat_ofNat_of_lt (by omega)
  have hg := StableHlo.Predicate.gather_take gather_S1024_S512x1_S512_n_0_n_n_0_1_1 rfl rfl rfl rfl z ic k (by decide)
  rw [ofFin_eq, ofFin_eq] at hg
  rw [hg]
  refine congrArg (fun q => z (ix1 q)) (Fin.ext ?_)
  show min (ic (StableHlo.Predicate.ixP k)).toInt.toNat (1024 - 1) = i.val
  rw [column_at k, h, RefWords.toNat_eq _ (by omega), hw]
  omega

/-- The places, as the take reads them. -/
theorem places_at (idx : IVec S512 32) (k : Fin 512) (i : Fin 1024) (h : idx (ix1 k) = BitVec.ofNat 32 i.val) :
    broadcastInDim S512x1 ![0] bcast_S512_S512x1_0
      (select (cmpi .slt idx (broadcastInDim S512 ![] bcast_S_S512 (constantI S_ 32 0#32)))
        (addi idx (broadcastInDim S512 ![] bcast_S_S512 (constantI S_ 32 1024#32))) idx) (ix2 k 0)
      = BitVec.ofNat 32 i.val := by
  have hlt := i.isLt
  have hw : (BitVec.ofNat 32 i.val).toNat = i.val := WordCmp.toNat_ofNat_of_lt (by omega)
  pointwise
  rw [h]
  exact RefWords.wrap_eq _ _ (by omega)

/-- The number at a row. -/
def row (z : FVec Ideal S1024 .f32) (i : Fin 1024) : EReal := z (ix1 i)

/-- The mean at places that are row numbers. -/
theorem mean_at (z : FVec Ideal S1024 .f32) (idx : IVec S512 32) (σ : Fin 512 → Fin 1024)
    (h : ∀ k, idx (ix1 k) = BitVec.ofNat 32 (σ k).val) :
    mean z idx ix0 = Ideal.div (∑ k : Fin 512, row z (σ k)) ((512 : ℝ) : EReal) := by
  have h512 : Ideal.ofBits .f32 1140850688#32 = ((512 : ℝ) : EReal) := by
    simp [Ideal.ofBits, Ideal.ieee, -EReal.coe_mul]; norm_num
  pointwise [mean]
  rw [h512]
  exact congrArg (fun y => Ideal.div y _)
    (Finset.sum_congr rfl fun k _ => take_at z _ k (σ k) (places_at idx k (σ k) (h k)))

/-- The mean of the losses in their own order: over the first 512 of them. -/
theorem mean_order (z : FVec Ideal S1024 .f32) :
    mean z (order z) ix0 = Ideal.div (∑ i ∈ TopSum.firsts (row z) 512, row z i) ((512 : ℝ) : EReal) := by
  have hs := TopSum.sum_ordering (row z) (p := 512) (by decide) (src z) (src_injective z) (fun i j h => src_ordered z i j h)
  rw [mean_at z (order z) (fun k => src z (Fin.castLE (by decide) k)) (order_at z), hs]

end Cert.Proof.Ref

end
-- ==== Proof.RefMax.lean ====
module

public import proofs.«01_k».proof.Proof.RefStages

@[expose] public section

/-!
The largest prediction of a row is a real number when the row's predictions are.
-/

set_option maxRecDepth 16384

noncomputable section

namespace Cert.Proof.Ref

open Cert.ReferenceIdeal Cert.ReferenceIdeal.Facts₀ Cert.ReferenceIdeal.Facts
open Idealize.ShloMosaic Idealize.ShloMosaic.TcCoe

/-- A left fold by the larger of two that starts below the top and meets nothing at the top stays below it. -/
theorem foldl_ne_top {ι : Type} (f : ι → EReal) : ∀ (l : List ι) (z : EReal), z ≠ ⊤ → (∀ n ∈ l, f n ≠ ⊤) →
    l.foldl (fun r n => max r (f n)) z ≠ ⊤
  | [], _, hz, _ => hz
  | a :: l, z, hz, hf => foldl_ne_top f l _
      (by
        show max z (f a) ≠ ⊤
        rcases max_choice z (f a) with h | h <;> rw [h]
        exacts [hz, hf a (List.mem_cons_self ..)])
      fun n hn => hf n (List.mem_cons_of_mem _ hn)

/-- It does not fall below where it starts, -/
theorem le_foldl {ι : Type} (f : ι → EReal) : ∀ (l : List ι) (z : EReal), z ≤ l.foldl (fun r n => max r (f n)) z
  | [], _ => le_rfl
  | a :: l, z => (le_max_left z (f a)).trans (le_foldl f l _)

/-- nor below anything it meets. -/
theorem mem_le_foldl {ι : Type} (f : ι → EReal) : ∀ (l : List ι) (z : EReal), ∀ n ∈ l, f n ≤ l.foldl (fun r n => max r (f n)) z
  | [], _, _, hn => nomatch hn
  | a :: l, z, n, hn => by
    rcases List.mem_cons.1 hn with rfl | hn
    · exact (le_max_right z (f n)).trans (le_foldl f l _)
    · exact mem_le_foldl f l _ n hn

/-- The row of an index of the predictions. -/
theorem drop_row (i : Fin 1024) (k : Fin 100000) :
    (reducesTo_S1024x100000_S1024_d1 : S1024x100000.ReducesTo [1] S1024).drop (ix2 i k) = ix1 i := by
  funext a
  apply Fin.ext
  match a with
  | ⟨0, _⟩ => rfl

/-- The largest of a row of real numbers is a real number. -/
theorem rowMax_real (x : FVec Ideal S1024x100000 .f32) (hx : ∀ j, x j ≠ ⊤ ∧ x j ≠ ⊥) (i : Fin 1024) :
    ∃ r : ℝ, rowMax x (ix1 i) = (r : EReal) := by
  have h1 : rowMax x (ix1 i) ≠ ⊤ := by
    unfold rowMax
    rw [Host.reduce_eq_foldl]
    refine foldl_ne_top x _ _ ?_ fun n _ => (hx n).1
    show Ideal.ofBits .f32 4286578688#32 ≠ ⊤
    simp [Ideal.ofBits, Ideal.ieee]
  have h2 : rowMax x (ix1 i) ≠ ⊥ := by
    intro h
    have hle : x (ix2 i (⟨0, by decide⟩ : Fin 100000)) ≤ rowMax x (ix1 i) := by
      unfold rowMax
      rw [Host.reduce_eq_foldl]
      refine mem_le_foldl x _ _ _ ?_
      rw [List.mem_filter]
      exact ⟨List.mem_map.2 ⟨S1024x100000.rowMajor _, List.mem_finRange _, Equiv.symm_apply_apply _ _⟩,
        decide_eq_true (drop_row i _)⟩
    rw [h] at hle
    exact (hx _).2 (le_bot_iff.mp hle)
  exact ⟨_, (EReal.coe_toReal h1 h2).symm⟩

end Cert.Proof.Ref

end
-- ==== Proof.RefPick.lean ====
module

public import proofs.«01_k».proof.Proof.RefStages
public import proofs.«01_k».proof.Proof.RefWords
public import Idealize.ShloMosaic.Lib.ReduceAll

@[expose] public section

/-!
The target's own log-probability: where the target is a column, the log-probability at that column.
-/

set_option maxRecDepth 16384

noncomputable section

namespace Cert.Proof.Ref

open Cert.ReferenceIdeal Cert.ReferenceIdeal.Facts₀ Cert.ReferenceIdeal.Facts
open Idealize.ShloMosaic Idealize.ShloMosaic.TcCoe

/-- A target that is a column is not wrapped. -/
theorem wrapped_at (tg : IVec S1024 32) (i : Fin 1024) (h : (tg (ix1 i)).toNat < 100000) :
    wrapped tg (ix3 i 0 0) = tg (ix1 i) := by
  pointwise [wrapped]
  exact RefWords.wrap_eq _ _ (by omega)

/-- A target that is a column is inside. -/
theorem inside_at (w : IVec S1024x1x1 32) (i : Fin 1024) (h : (w (ix3 i 0 0)).toNat < 100000) :
    inside w (ix2 i 0) = 1#1 := by
  pointwise [inside]
  rw [Finset.univ_unique, Finset.fold_singleton]
  show IntOp.andi (IntOp.andi (IntOp.cmpi .sge (w (ix3 i 0 0)) 0#32) (IntOp.cmpi .sle (w (ix3 i 0 0)) 99999#32)) 1#1 = 1#1
  rw [RefWords.sge_zero _ (by omega), RefWords.sle_last _ h]
  rfl

/-- The numbers of the gather's axes. -/
abbrev dims : GatherDims S1024x100000 S1024x1x1 S1024x1 := gather_S1024x100000_S1024x1x1_S1024x1_n_1_0_0_1_2_11

/-- The row the gather reads, and its column. -/
theorem gather_at (l : FVec Ideal S1024x100000 .f32) (w : IVec S1024x1x1 32) (i : Fin 1024) (h : (w (ix3 i 0 0)).toNat < 100000) :
    Host.gather gather_S1024x100000_S1024x1x1_S1024x1_n_1_0_0_1_2_11 l w (ix2 i 0) = l (ix2 i ⟨(w (ix3 i 0 0)).toNat, h⟩) := by
  unfold Host.gather
  refine congrArg l ?_
  have hsi : ∀ c, dims.siIdx (ix2 i 0) c = ix3 i 0 0 := by
    intro c
    funext b
    match b with
    | ⟨0, _⟩ => rfl
    | ⟨1, _⟩ => exact Subsingleton.elim (α := Fin 1) _ _
    | ⟨2, _⟩ => exact Subsingleton.elim (α := Fin 1) _ _
  funext a
  apply Fin.ext
  match a with
  | ⟨0, _⟩ =>
    show dims.start (ix2 i 0) w (0 : Fin 2) + dims.batchCoord (ix2 i 0) (0 : Fin 2) + dims.offCoord (ix2 i 0) (0 : Fin 2) = i.val
    rw [GatherDims.start_batching _ _ _ _ (List.mem_singleton.mpr rfl),
      GatherDims.offCoord_eq_zero _ _ _ (by rw [GatherDims.mem_sKept]; exact fun h => h.2 (List.mem_singleton.mpr rfl))]
    unfold GatherDims.batchCoord
    rw [dif_pos (show (0 : Fin 2) ∈ dims.operandBatchingDims from List.mem_singleton.mpr rfl)]
    rw [Nat.zero_add, Nat.add_zero]
    rfl
  | ⟨1, _⟩ =>
    show dims.start (ix2 i 0) w (1 : Fin 2) + dims.batchCoord (ix2 i 0) (1 : Fin 2) + dims.offCoord (ix2 i 0) (1 : Fin 2) = (w (ix3 i 0 0)).toNat
    rw [GatherDims.batchCoord_eq_zero _ _ _ (by decide),
      GatherDims.offCoord_eq_zero _ _ _ (by rw [GatherDims.mem_sKept]; exact fun h => h.1 (List.mem_singleton.mpr rfl))]
    unfold GatherDims.start
    rw [dif_pos (show (1 : Fin 2) ∈ dims.startIndexMap from List.mem_singleton.mpr rfl), hsi]
    show min (w (ix3 i 0 0)).toInt.toNat (100000 - 1) + 0 + 0 = _
    rw [RefWords.toNat_eq _ (by omega)]
    omega

/-- The target's own log-probability. -/
theorem picked_at (l : FVec Ideal S1024x100000 .f32) (tg : IVec S1024 32) (i : Fin 1024) (h : (tg (ix1 i)).toNat < 100000) :
    picked l (wrapped tg) (ix2 i 0) = l (ix2 i ⟨(tg (ix1 i)).toNat, h⟩) := by
  have hw := wrapped_at tg i h
  have hlt : (wrapped tg (ix3 i 0 0)).toNat < 100000 := by rw [hw]; exact h
  show Scalar.select (inside (wrapped tg) (ix2 i 0)) (Host.gather _ l (wrapped tg) (ix2 i 0)) _ = _
  rw [inside_at _ i hlt, gather_at l _ i hlt]
  refine congrArg l (congrArg (ix2 i) (Fin.ext ?_))
  show (wrapped tg (ix3 i 0 0)).toNat = _
  rw [hw]

end Cert.Proof.Ref

end
-- ==== Proof.KernelPure.lean ====
module

public import proofs.«01_k».proof.Proof.StatsRegion
public import Idealize.ShloMosaic.Lib.Pointwise

@[expose] public section

/-!
What each value the two kernels store is, element by element, over the reals with the two infinities.
-/

set_option maxRecDepth 16384

noncomputable section

namespace Cert.Proof.Pure

open Cert.KernelIdeal Cert.KernelIdeal.Gen
open Idealize.ShloMosaic
open Cert.Proof

/-! ## Words and literals -/

/-- Column `k` of block `g` is the one the target names exactly when its number in the array is the target's. -/
theorem hit_iff {g k : ℕ} (hg : g < 25) (hk : k < 4096) (T : BitVec 32) :
    IntOp.cmpi .eq (BitVec.ofNat 32 k) (IntOp.subi T (Scalar.muli (BitVec.ofNat 32 g) 4096#32)) = 1#1
      ↔ 4096 * g + k = T.toNat := by
  have hT := T.isLt
  rw [WordCmp.cmpi_eq_eq_toNat, WordCmp.ofBool_decide_eq_one_iff]
  show (BitVec.ofNat 32 k).toNat = (T - BitVec.ofNat 32 g * 4096#32).toNat ↔ _
  simp only [BitVec.toNat_sub, BitVec.toNat_mul, BitVec.toNat_ofNat]
  omega

/-- The column mask of the last block, as a number. -/
theorem lane_iff {k : ℕ} (hk : k < 4096) :
    IntOp.cmpi .slt (BitVec.ofNat 32 k) 1696#32 = 1#1 ↔ k < 1696 :=
  WordCmp.cmpi_slt_ofNat_eq_one_iff (by omega) (by decide)

theorem negInf : Ideal.ofBits .f32 4286578688#32 = (⊥ : EReal) := by
  simp [Ideal.ofBits, Ideal.ieee]

theorem hundredThousand : Ideal.ofBits .f32 1203982336#32 = ((100000 : ℝ) : EReal) := by
  simp [Ideal.ofBits, Ideal.ieee, -EReal.coe_mul]; norm_num

theorem fiveTwelve : Ideal.ofBits .f32 1140850688#32 = ((512 : ℝ) : EReal) := by
  simp [Ideal.ofBits, Ideal.ieee, -EReal.coe_mul]; norm_num

/-! ## A full block of columns -/

theorem pay4_at (x : Vec Ideal S1024x4096 .f32) (a : Vec Ideal S1024x1 .f32) (i : Fin 1024) :
    k0_pay4 x a (ix2 i 0) = a (ix2 i 0) + ∑ k : Fin 4096, Ideal.exp (x (ix2 i k)) := by
  pointwise [k0_pay4]

theorem pay5_at (x : Vec Ideal S1024x4096 .f32) (a : Vec Ideal S1024x1 .f32) (i : Fin 1024) :
    k0_pay5 x a (ix2 i 0) = a (ix2 i 0) + ∑ k : Fin 4096, x (ix2 i k) := by
  pointwise [k0_pay5]

theorem pay6_at (g : grid0.Coords) (x : Vec Ideal S1024x4096 .f32) (t : Vec Ideal S1024x1 .i32)
    (a : Vec Ideal S1024x1 .f32) (i : Fin 1024) :
    k0_pay6 g x t a (ix2 i 0)
      = a (ix2 i 0) + ∑ k : Fin 4096, if 4096 * (g 0).val + k.val = (t (ix2 i 0)).toNat then x (ix2 i k) else 0 := by
  have hg : (g 0).val < 25 := (g 0).isLt
  pointwise [k0_pay6]
  refine congrArg _ (Finset.sum_congr rfl fun k _ => ?_)
  exact if_congr (hit_iff hg k.isLt _) rfl rfl

/-! ## The last block: its first 1696 columns -/

/-- `z` on the columns before `p`, zero past them. -/
def keep (p k : ℕ) (z : EReal) : EReal := if k < p then z else 0

theorem pay11_at (x : Vec Ideal S1024x4096 .f32) (a : Vec Ideal S1024x1 .f32) (i : Fin 1024) :
    k0_pay11 Stats.lanes x a (ix2 i 0)
      = a (ix2 i 0) + ∑ k : Fin 4096, keep 1696 k.val (Ideal.exp (x (ix2 i k))) := by
  pointwise [k0_pay11, k0_pay9, Stats.lanes]
  refine congrArg _ (Finset.sum_congr rfl fun k _ => ?_)
  rw [negInf]
  unfold Scalar.select keep
  by_cases h : k.val < 1696
  · rw [if_pos h]; exact congrArg _ (if_pos ((lane_iff k.isLt).mpr h))
  · rw [if_neg h]; exact (congrArg _ (if_neg fun h' => h ((lane_iff k.isLt).mp h'))).trans rfl

theorem pay12_at (x : Vec Ideal S1024x4096 .f32) (a : Vec Ideal S1024x1 .f32) (i : Fin 1024) :
    k0_pay12 Stats.lanes x a (ix2 i 0)
      = a (ix2 i 0) + ∑ k : Fin 4096, keep 1696 k.val (x (ix2 i k)) := by
  pointwise [k0_pay12, k0_pay10, k0_pay9, Stats.lanes]
  refine congrArg _ (Finset.sum_congr rfl fun k _ => ?_)
  exact if_congr (lane_iff k.isLt) rfl rfl

theorem pay13_at {g : ℕ} (hg : g < 25) (x : Vec Ideal S1024x4096 .f32) (t : Vec Ideal S1024x1 .i32)
    (a : Vec Ideal S1024x1 .f32) (i : Fin 1024) :
    k0_pay7 (k0_pay13 (BitVec.ofNat 32 g) Stats.lanes x t a) (ix2 i 0)
      = a (ix2 i 0) + ∑ k : Fin 4096, keep 1696 k.val
          (if 4096 * g + k.val = (t (ix2 i 0)).toNat then x (ix2 i k) else 0) := by
  pointwise [k0_pay7, k0_pay13, k0_pay10, k0_pay9, Stats.lanes]
  refine congrArg _ (Finset.sum_congr rfl fun k _ => ?_)
  unfold keep
  refine (if_congr (hit_iff hg k.isLt _) (if_congr (lane_iff k.isLt) rfl rfl) rfl).trans ?_
  split_ifs <;> rfl

/-! ## The loss of a row from its statistics -/

theorem pay8_at (s xt sx : Vec Ideal S1024x1 .f32) (i : Fin 1024) :
    k0_pay8 s xt sx (ix2 i 0) = Ideal.log (s (ix2 i 0)) - ((9 / 10 : ℝ) : EReal) * xt (ix2 i 0)
      - ((1 / 10 : ℝ) : EReal) * Ideal.div (sx (ix2 i 0)) ((100000 : ℝ) : EReal) := by
  pointwise [k0_pay8]
  rw [hundredThousand]
  rfl

/-! ## The mean of the 512 largest -/

/-- The row's place in descending order, ties by row number: how many rows stand before it, as the kernel counts them. -/
def place (l : Fin 1024 → EReal) (i : Fin 1024) : EReal :=
  ∑ k : Fin 1024, ((if l i < l k then 1 else 0) + (if l k = l i ∧ k < i then 1 else 0))

theorem sitofp_bit (b : Bool) :
    FloatOps.sitofp (F := Ideal) .f32 (BitVec.setWidth 32 (BitVec.ofBool b)) = if b then (1 : EReal) else 0 := by
  show (((BitVec.setWidth 32 (BitVec.ofBool b)).toInt : ℝ) : EReal) = _
  cases b
  · rw [show (BitVec.setWidth 32 (BitVec.ofBool false)).toInt = 0 from by decide]; simp
  · rw [show (BitVec.setWidth 32 (BitVec.ofBool true)).toInt = 1 from by decide]; simp

theorem tie_bit (b : Bool) (k i : Fin 1024) :
    IntOp.andi (BitVec.ofBool b) (IntOp.cmpi .slt (BitVec.ofNat 32 k.val) (BitVec.ofNat 32 i.val))
      = BitVec.ofBool (b && decide (k < i)) := by
  rw [WordCmp.cmpi_slt_ofNat (by omega) (by omega)]
  cases b <;> by_cases h' : k < i
  all_goals
    have h'' := h'
    rw [Fin.lt_def] at h''
    simp [h', h'', IntOp.andi]

theorem pay1_at (r : Vec Ideal S1x1024 .f32) (l : Vec Ideal S1024x1 .f32) (f : Fin 1024 → EReal)
    (hr : ∀ k, r (ix2 0 k) = f k) (hl : ∀ k, l (ix2 k 0) = f k) :
    k1_pay1 r l (ix2 0 0)
      = Ideal.div (∑ i : Fin 1024, if place f i < ((512 : ℝ) : EReal) then f i else 0) ((512 : ℝ) : EReal) := by
  pointwise [k1_pay1]
  rw [fiveTwelve]
  simp only [hr, hl, tie_bit, sitofp_bit]
  refine congrArg (fun z => Ideal.div z _) (Finset.sum_congr rfl fun i _ => ?_)
  unfold place
  simp

end Cert.Proof.Pure

end
-- ==== Proof.KernelSums.lean ====
module

public import proofs.«01_k».proof.Proof.KernelPure

@[expose] public section

/-!
The statistics after any number of blocks, row by row: the sum of the exponentials, the sum, and the target's own
value, over the columns seen so far.
-/

set_option maxRecDepth 16384

noncomputable section

namespace Cert.Proof.Sums

open Cert.KernelIdeal Cert.KernelIdeal.Gen
open Idealize.ShloMosaic Idealize.ShloMosaic.TcCoe
open Cert.Proof

/-- Row `i` of the predictions, column by column, zero past the array. -/
def X (A : Vec Ideal S1024x100000 .f32) (i : Fin 1024) (n : ℕ) : EReal :=
  if h : n < 100000 then A (ix2 i ⟨n, h⟩) else 0

theorem sum_keep (p : ℕ) (hp : p ≤ 4096) (f : ℕ → EReal) :
    ∑ k : Fin 4096, Pure.keep p k.val (f k.val) = ∑ k ∈ Finset.range p, f k := by
  rw [Fin.sum_univ_eq_sum_range (fun k => Pure.keep p k (f k)) 4096]
  refine ((Finset.sum_subset (Finset.range_subset_range.mpr hp) fun k _ hk => ?_).symm.trans ?_)
  · exact if_neg fun h => hk (Finset.mem_range.mpr h)
  · exact Finset.sum_congr rfl fun k hk => if_pos (Finset.mem_range.mp hk)

/-- The columns of block `t`. -/
def width (t : ℕ) : ℕ := if t < 24 then 4096 else 1696

/-- One more block of columns under a sum over them all. -/
theorem sum_more {t : ℕ} (h : t < 25) (f : ℕ → EReal) :
    ∑ n ∈ Finset.range (min (4096 * (t + 1)) 100000), f n
      = ∑ n ∈ Finset.range (min (4096 * t) 100000), f n + ∑ k ∈ Finset.range (width t), f (4096 * t + k) := by
  have e1 : min (4096 * t) 100000 = 4096 * t := by omega
  have e2 : min (4096 * (t + 1)) 100000 = 4096 * t + width t := by unfold width; split <;> omega
  rw [e1, e2, Finset.sum_range_add]

variable (V : Stats.Vals Ideal) (c : Dev nD)

/-- The predictions and the targets where the kernel starts. -/
abbrev preds : Vec Ideal S1024x100000 .f32 := V c main_arg0
abbrev targs : Vec Ideal S1024x1 .i32 := V c main_call0_v0

theorem index_row : ∀ t : Fin cfg0.N, win0_0.index t (0 : Fin 2) = 0 :=
  (by decide +kernel : ∀ t : Fin grid0.N, win0_0.index t (0 : Fin 2) = 0)
theorem index_col : ∀ t : Fin cfg0.N, win0_0.index t (1 : Fin 2) = t.val :=
  (by decide +kernel : ∀ t : Fin grid0.N, win0_0.index t (1 : Fin 2) = t.val)
theorem coord_eq : ∀ t : Fin cfg0.N, (grid0.coords t 0).val = t.val :=
  (by decide +kernel : ∀ t : Fin grid0.N, (grid0.coords t 0).val = t.val)
theorem index_targs : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem point_lt (t : Fin cfg0.N) : t.val < 25 := lt_of_lt_of_eq t.isLt N_0

/-- A column of a block that its transfer moves is a column of the array. -/
theorem xpad_at (t : Fin cfg0.N) (d : Vec Ideal S1024x4096 .f32) (i : Fin 1024) (k : Fin 4096)
    (h : k.val < width t.val) : Stats.xpad V c t d (ix2 i k) = X (preds V c) i (4096 * t.val + k.val) := by
  have ht := point_lt t
  have hn : 4096 * t.val + k.val < 100000 := by unfold width at h; split at h <;> omega
  have hm : (cfg0.win 0).moved (cfg0.grid.coords t) (ix2 i k) = true := Stats.moved_of_lt t _ h
  unfold Stats.xpad Pipeline.Window.fill X
  rw [dif_pos hm, dif_pos hn]
  show preds V c (((cfg0.win 0).blk t).view.emb _) = preds V c _
  refine congrArg (preds V c) (funext fun a => Fin.ext ?_)
  refine (Pipeline.Window.rect_emb_val win0_0 t _ a).trans ?_
  match a with
  | ⟨0, _⟩ =>
    show win0_0.index t (0 : Fin 2) * 1024 + i.val = i.val
    rw [index_row, Nat.zero_mul, Nat.zero_add]
  | ⟨1, _⟩ =>
    show win0_0.index t (1 : Fin 2) * 4096 + k.val = 4096 * t.val + k.val
    rw [index_col, Nat.mul_comm]

/-- The targets' block is the targets. -/
theorem tblk_at (t : Fin cfg0.N) : Stats.iblk V c 1 t = targs V c := by
  funext j
  show targs V c (((cfg0.win 1).blk t).view.emb j) = targs V c j
  refine congrArg (targs V c) (funext fun a => Fin.ext ?_)
  refine (Pipeline.Window.rect_emb_val win0_1 t _ a).trans ?_
  match a with
  | ⟨0, _⟩ =>
    show win0_1.index t (0 : Fin 2) * 1024 + (j 0).val = (j 0).val
    rw [(index_targs t).1, Nat.zero_mul, Nat.zero_add]
  | ⟨1, _⟩ =>
    show win0_1.index t (1 : Fin 2) * 1 + (j 1).val = (j 1).val
    rw [(index_targs t).2, Nat.zero_mul, Nat.zero_add]

/-- The row's exponential, its value, and its value where the target names the column, by column. -/
def terms (A : Vec Ideal S1024x100000 .f32) (T : Vec Ideal S1024x1 .i32) (i : Fin 1024) : Fin 3 → ℕ → EReal
  | 0 => fun n => Ideal.exp (X A i n)
  | 1 => fun n => X A i n
  | 2 => fun n => if n = (T (ix2 i 0)).toNat then X A i n else 0

/-- A row's three statistics. -/
def stat (a : Stats.Acc Ideal) (i : Fin 1024) : Fin 3 → EReal
  | 0 => a.s (ix2 i 0)
  | 1 => a.sx (ix2 i 0)
  | 2 => a.xt (ix2 i 0)

/-- The sum of block values over the columns its transfer moves. -/
theorem sum_width (t : ℕ) (g : Fin 4096 → EReal) (f : ℕ → EReal)
    (h : ∀ k : Fin 4096, k.val < width t → g k = f k.val) :
    ∑ k : Fin 4096, Pure.keep (width t) k.val (g k) = ∑ k ∈ Finset.range (width t), f k := by
  rw [← sum_keep (width t) (by unfold width; split <;> omega) f]
  refine Finset.sum_congr rfl fun k _ => ?_
  unfold Pure.keep
  split
  · next hk => exact h k hk
  · rfl

/-- One block's effect on a row's statistics. -/
theorem stat_succ (t : Fin cfg0.N) (i : Fin 1024) (q : Fin 3) :
    stat (Stats.accAt V c (t.val + 1) t.isLt) i q = stat (Stats.accAt V c t.val (Nat.le_of_lt t.isLt)) i q
      + ∑ k ∈ Finset.range (width t.val), terms (preds V c) (targs V c) i q (4096 * t.val + k) := by
  have hx := xpad_at V c t (fun _ => 0) i
  by_cases h : t.val < 24
  · have hw : width t.val = 4096 := if_pos h
    have hfull : ∀ g : Fin 4096 → EReal, ∑ k, g k = ∑ k : Fin 4096, Pure.keep (width t.val) k.val (g k) := fun g =>
      Finset.sum_congr rfl fun k _ => (if_pos (hw.symm ▸ k.isLt)).symm
    rw [Stats.accAt_succ_full V c t h (fun _ => 0), tblk_at]
    match q with
    | 0 =>
      refine (Pure.pay4_at _ _ i).trans (congrArg _ ?_)
      rw [hfull]
      exact sum_width _ _ _ fun k hk => congrArg Ideal.exp (hx k hk)
    | 1 =>
      refine (Pure.pay5_at _ _ i).trans (congrArg _ ?_)
      rw [hfull]
      exact sum_width _ _ _ fun k hk => hx k hk
    | 2 =>
      refine (Pure.pay6_at _ _ _ _ i).trans (congrArg _ ?_)
      rw [hfull]
      refine sum_width _ _ _ fun k hk => ?_
      rw [hx k hk, coord_eq]; rfl
  · have hw : width t.val = 1696 := if_neg h
    rw [Stats.accAt_succ_last V c t h (fun _ => 0), tblk_at]
    match q with
    | 0 =>
      refine (Pure.pay11_at _ _ i).trans (congrArg _ ?_)
      rw [← hw]
      exact sum_width _ _ _ fun k hk => congrArg Ideal.exp (hx k hk)
    | 1 =>
      refine (Pure.pay12_at _ _ i).trans (congrArg _ ?_)
      rw [← hw]
      exact sum_width _ _ _ fun k hk => hx k hk
    | 2 =>
      refine (Pure.pay13_at (grid0.coords t 0).isLt _ _ _ i).trans (congrArg _ ?_)
      rw [← hw]
      refine sum_width _ _ _ fun k hk => ?_
      rw [hx k hk, coord_eq]; rfl

theorem stat_zero (i : Fin 1024) (q : Fin 3) : stat (Stats.zeroAcc (F := Ideal)) i q = 0 := by
  match q with
  | 0 => show k0_pay1 (F := Ideal) (ix2 i 0) = 0; pointwise [k0_pay1]
  | 1 => show k0_pay2 (F := Ideal) (ix2 i 0) = 0; pointwise [k0_pay2]
  | 2 => show k0_pay3 (F := Ideal) (ix2 i 0) = 0; pointwise [k0_pay3]

/-- A row's statistics after `n` blocks. -/
theorem stat_eq (i : Fin 1024) (q : Fin 3) : ∀ (n : ℕ) (h : n ≤ cfg0.N),
    stat (Stats.accAt V c n h) i q
      = ∑ k ∈ Finset.range (min (4096 * n) 100000), terms (preds V c) (targs V c) i q k
  | 0, _ => (stat_zero i q).trans (by rw [Nat.mul_zero, Nat.zero_min, Finset.range_zero, Finset.sum_empty])
  | n + 1, h => by
    rw [sum_more (lt_of_lt_of_eq h N_0), ← stat_eq i q n (Nat.le_of_lt h)]
    exact stat_succ V c ⟨n, h⟩ i q

/-- The whole row's statistics. -/
theorem stat_all (i : Fin 1024) (q : Fin 3) (n : ℕ) (hn : n = 25) (h : n ≤ cfg0.N) :
    stat (Stats.accAt V c n h) i q = ∑ k : Fin 100000, terms (preds V c) (targs V c) i q k.val := by
  subst hn
  rw [stat_eq, Fin.sum_univ_eq_sum_range (terms (preds V c) (targs V c) i q) 100000]
  rfl

/-- The loss of a row, from its three sums. -/
def rowLoss (A : Vec Ideal S1024x100000 .f32) (T : Vec Ideal S1024x1 .i32) (i : Fin 1024) : EReal :=
  Ideal.log (∑ k : Fin 100000, terms A T i 0 k.val)
    - ((9 / 10 : ℝ) : EReal) * (∑ k : Fin 100000, terms A T i 2 k.val)
    - ((1 / 10 : ℝ) : EReal) * Ideal.div (∑ k : Fin 100000, terms A T i 1 k.val) ((100000 : ℝ) : EReal)

theorem loss_at (i : Fin 1024) (n : ℕ) (hn : n = 25) (h : n ≤ cfg0.N) :
    Stats.lossOf (Stats.accAt V c n h) (ix2 i 0) = rowLoss (preds V c) (targs V c) i := by
  refine (Pure.pay8_at _ _ _ i).trans ?_
  unfold rowLoss
  rw [← stat_all V c i 0 n hn h, ← stat_all V c i 1 n hn h, ← stat_all V c i 2 n hn h]
  rfl

end Cert.Proof.Sums

end
-- ==== Proof.KernelResult.lean ====
module

public import proofs.«01_k».proof.Proof.KernelSums
public import proofs.«01_k».proof.Proof.KernelRun
public import proofs.«01_k».proof.Proof.TopSum
public import Idealize.ShloMosaic.Lib.StableHlo.ReadAt
public import Idealize.ShloMosaic.Lib.Pipeline.ValueKit.Geometry

@[expose] public section

/-!
The kernel's result as a function of its arguments: the mean of the 512 largest row losses.
-/

set_option maxRecDepth 16384

noncomputable section

namespace Cert.Proof.Result

open Cert.KernelIdeal Cert.KernelIdeal.Gen
open Idealize.ShloMosaic Idealize.ShloMosaic.TcCoe
open Idealize.ShloMosaic.Pipeline (Dat)
open Cert.Proof

variable (m : (ℓ : Loc nD τ sig) → Buf (Elt Ideal) ℓ) (c : Dev nD)

abbrev arg0 : Vec Ideal S1024x100000 .f32 := m ((c.tc : Thread nD τ).loc main_arg0)
abbrev arg1 : Vec Ideal S1024 .i32 := m ((c.tc : Thread nD τ).loc main_arg1)

/-- The targets as a column. -/
def column (T : Vec Ideal S1024 .i32) : Vec Ideal S1024x1 .i32 := fun j => T (ix1 (j 0))

theorem preds_eq : Sums.preds (fun c b => V1 m c b) c = arg0 m c := V1_of m c main_arg0 (by decide)

theorem targs_eq : Sums.targs (fun c b => V1 m c b) c = column (arg1 m c) := by
  funext j
  show StableHlo.after hostOps0 (V0 m c) (Proc.devRef .tc main_call0_v0) j = _
  idx_vars j
  after_reads_at
  rfl

/-- The row losses, of the arguments. -/
def losses (i : Fin 1024) : EReal := Sums.rowLoss (arg0 m c) (column (arg1 m c)) i

/-- The statistics region leaves the losses, -/
theorem out0_at (i : Fin 1024) : Run.out0 m c (ix2 i 0) = losses m c i := by
  refine ((Stats.dat (fun c b => V1 m c b) c).arrAt_emb_eq_after_last 2 ⟨24, by decide⟩ (by decide +kernel) (ix2 i 0)).trans ?_
  show (Stats.dat (fun c b => V1 m c b) c).after 2 ⟨24, by decide⟩ (ix2 i 0) = _
  rw [Stats.after_2]
  refine (Sums.loss_at _ c i 25 rfl _).trans ?_
  rw [preds_eq, targs_eq]
  rfl

theorem col_eq : V3 m (Run.outs m) c main_call0_v1 = Run.out0 m c :=
  (V3_of m (Run.outs m) c main_call0_v1 (by decide)).trans (Run.V2_out m c)

theorem row_at (k : Fin 1024) : V3 m (Run.outs m) c main_call0_v2 (ix2 0 k) = losses m c k := by
  rw [← out0_at, ← Run.V2_out m c]
  show StableHlo.after hostOps1 (V2 m (Run.outs m) c) (Proc.devRef .tc main_call0_v2) (ix2 0 k) = _
  after_reads_at

theorem index_zero : ∀ t : Fin cfg1.N, (∀ a, win1_0.index t a = 0) ∧ ∀ a, win1_1.index t a = 0 :=
  (by decide +kernel : ∀ t : Fin grid1.N, (∀ a, win1_0.index t a = 0) ∧ ∀ a, win1_1.index t a = 0)

/-- The top-k region's blocks are its arrays. -/
theorem row_block (V : Stats.Vals Ideal) (t : Fin cfg1.N) : Topk.iblk V c 0 t = V c main_call0_v2 := by
  funext j
  show V c main_call0_v2 (((cfg1.win 0).blk t).view.emb j) = V c main_call0_v2 j
  refine congrArg (V c main_call0_v2) (funext fun a => Fin.ext ?_)
  exact Pipeline.Window.rect_emb_val_of_index_zero win1_0 t a ((index_zero t).1 a) j

theorem col_block (V : Stats.Vals Ideal) (t : Fin cfg1.N) : Topk.iblk V c 1 t = V c main_call0_v1 := by
  funext j
  show V c main_call0_v1 (((cfg1.win 1).blk t).view.emb j) = V c main_call0_v1 j
  refine congrArg (V c main_call0_v1) (funext fun a => Fin.ext ?_)
  exact Pipeline.Window.rect_emb_val_of_index_zero win1_1 t a ((index_zero t).2 a) j

/-- What the top-k region leaves, of its arrays. -/
theorem mean_at (V : Stats.Vals Ideal) : (Topk.dat V c).arrAt 2 cfg1.N (ix2 0 0)
    = k1_pay1 (F := Ideal) (V c main_call0_v2) (V c main_call0_v1) (ix2 0 0) := by
  refine ((Topk.dat V c).arrAt_emb_eq_after_last 2 ⟨0, by decide⟩ (by decide +kernel) (ix2 0 0)).trans ?_
  show k1_pay1 (F := Ideal) (Topk.iblk V c 0 ⟨0, by decide⟩) (Topk.iblk V c 1 ⟨0, by decide⟩) (ix2 0 0) = _
  rw [row_block, col_block]

/-- The top-k region leaves the mean, -/
theorem out1_at : Run.out1 m c (ix2 0 0)
    = Ideal.div (∑ i ∈ TopSum.firsts (losses m c) 512, losses m c i) ((512 : ℝ) : EReal) := by
  unfold Run.out1
  refine (mean_at c _).trans ?_
  refine (Pure.pay1_at _ _ (losses m c) (row_at m c) (fun k => ?_)).trans ?_
  · rw [← out0_at, ← col_eq m c]; rfl
  · have h := TopSum.sum_count (losses m c) 512
    rw [Nat.cast_ofNat] at h
    unfold Pure.place
    rw [h]

/-- and the program returns it. -/
theorem result_at : V5 m (Run.outs m) c main_v0
    = fun _ => Ideal.div (∑ i ∈ TopSum.firsts (losses m c) 512, losses m c i) ((512 : ℝ) : EReal) := by
  funext j
  rw [← out1_at, ← Run.V4_out m c]
  show StableHlo.after hostOps2 (V4 m (Run.outs m) c) (Proc.devRef .tc main_v0) j = _
  after_reads_at

end Cert.Proof.Result

end
-- ==== Proof.LossMath.lean ====
module

public import proofs.«01_k».proof.Proof.KernelResult

@[expose] public section

/-!
The loss of a row of real predictions, as a real number: from the logarithm of the sum of the exponentials less nine
tenths of the target's prediction and a tenth of the mean; and from the log-probabilities.
-/

noncomputable section

namespace Cert.Proof.LossMath

open Idealize.ShloMosaic

theorem coe_sum {ι : Type} (s : Finset ι) (f : ι → ℝ) : ∑ i ∈ s, ((f i : ℝ) : EReal) = ((∑ i ∈ s, f i : ℝ) : EReal) := by
  classical
  induction s using Finset.induction with
  | empty => simp
  | insert a s ha ih => rw [Finset.sum_insert ha, Finset.sum_insert ha, ih, EReal.coe_add]

theorem log_coe_of_pos (r : ℝ) (h : 0 < r) : Ideal.log ((r : ℝ) : EReal) = ((Real.log r : ℝ) : EReal) :=
  if_neg (not_le.mpr h)

/-- The logarithm of a sum of exponentials. -/
theorem log_sum_exp (y : Fin 100000 → ℝ) :
    Ideal.log (∑ n, Ideal.exp ((y n : ℝ) : EReal)) = ((Real.log (∑ n, Real.exp (y n)) : ℝ) : EReal) := by
  have h : ∀ n, Ideal.exp ((y n : ℝ) : EReal) = ((Real.exp (y n) : ℝ) : EReal) := fun n => rfl
  simp only [h]
  rw [coe_sum, log_coe_of_pos]
  exact Finset.sum_pos (fun n _ => Real.exp_pos _) ⟨⟨0, by decide⟩, Finset.mem_univ _⟩

/-- Shifting a row leaves its log-probabilities. -/
theorem log_softmax (y : Fin 100000 → ℝ) (M : ℝ) (k : Fin 100000) :
    ((y k - M : ℝ) : EReal) - Ideal.log (∑ n, Ideal.exp ((y n - M : ℝ) : EReal))
      = ((y k - Real.log (∑ n, Real.exp (y n)) : ℝ) : EReal) := by
  rw [log_sum_exp (fun n => y n - M), ← EReal.coe_sub]
  have hp : 0 < ∑ n, Real.exp (y n) :=
    Finset.sum_pos (fun n _ => Real.exp_pos _) ⟨⟨0, by decide⟩, Finset.mem_univ _⟩
  have h : ∑ n, Real.exp (y n - M) = (∑ n, Real.exp (y n)) * Real.exp (-M) := by
    rw [Finset.sum_mul]
    exact Finset.sum_congr rfl fun n _ => by rw [← Real.exp_add, sub_eq_add_neg]
  rw [h, Real.log_mul hp.ne' (Real.exp_pos _).ne', Real.log_exp]
  exact congrArg _ (by ring)

/-- The loss from the log-probabilities. -/
theorem loss_of_logp (y : Fin 100000 → ℝ) (L : ℝ) (T : Fin 100000) :
    ((9/10 : ℝ) : EReal) * -((y T - L : ℝ) : EReal)
        + ((1/10 : ℝ) : EReal) * -Ideal.div (∑ k, ((y k - L : ℝ) : EReal)) ((100000 : ℝ) : EReal)
      = ((L - 9/10 * y T - 1/10 * ((∑ k, y k) / 100000) : ℝ) : EReal) := by
  rw [coe_sum, Ideal.div_coe (by norm_num), ← EReal.coe_mul, ← EReal.coe_neg, ← EReal.coe_neg, ← EReal.coe_mul, ← EReal.coe_mul,
    ← EReal.coe_add]
  refine congrArg _ ?_
  rw [Finset.sum_sub_distrib, Finset.sum_const, Finset.card_univ, Fintype.card_fin, nsmul_eq_mul, Nat.cast_ofNat]
  ring

/-- The kernel's loss of a row of real predictions. -/
theorem rowLoss_real (A : FVec Ideal Cert.KernelIdeal.S1024x100000 .f32) (T : IVec Cert.KernelIdeal.S1024x1 32) (i : Fin 1024)
    (y : Fin 100000 → ℝ) (hy : ∀ k, A (ix2 i k) = ((y k : ℝ) : EReal)) (t : Fin 100000) (ht : (T (ix2 i 0)).toNat = t.val) :
    Sums.rowLoss A T i = ((Real.log (∑ n, Real.exp (y n)) - 9/10 * y t - 1/10 * ((∑ k, y k) / 100000) : ℝ) : EReal) := by
  have hX : ∀ k : Fin 100000, Sums.X A i k.val = ((y k : ℝ) : EReal) := fun k => by
    unfold Sums.X
    rw [dif_pos k.isLt]
    exact hy k
  have h0 : ∀ k : Fin 100000, Sums.terms A T i 0 k.val = Ideal.exp ((y k : ℝ) : EReal) := fun k =>
    congrArg Ideal.exp (hX k)
  have h1 : ∀ k : Fin 100000, Sums.terms A T i 1 k.val = ((y k : ℝ) : EReal) := fun k => hX k
  have h2 : ∀ k : Fin 100000, Sums.terms A T i 2 k.val = if k = t then ((y k : ℝ) : EReal) else 0 := fun k => by
    show (if k.val = (T (ix2 i 0)).toNat then Sums.X A i k.val else 0) = _
    rw [hX, ht]
    simp only [Fin.ext_iff]
  unfold Sums.rowLoss
  simp only [h0, h1, h2]
  rw [log_sum_exp, Finset.sum_ite_eq' Finset.univ t, if_pos (Finset.mem_univ _), coe_sum, Ideal.div_coe (by norm_num),
    ← EReal.coe_mul, ← EReal.coe_mul, ← EReal.coe_mul, ← EReal.coe_sub, ← EReal.coe_sub]
  refine congrArg _ ?_
  ring

end Cert.Proof.LossMath

end
-- ==== Proof.RefLoss.lean ====
module

public import proofs.«01_k».proof.Proof.RefMax
public import proofs.«01_k».proof.Proof.RefPick
public import proofs.«01_k».proof.Proof.LossMath

@[expose] public section

/-!
The reference's loss of a row, of real predictions and a target that is a column.
-/

set_option maxRecDepth 16384

noncomputable section

namespace Cert.Proof.Ref

open Cert.ReferenceIdeal Cert.ReferenceIdeal.Facts₀ Cert.ReferenceIdeal.Facts
open Idealize.ShloMosaic Idealize.ShloMosaic.TcCoe

theorem botWord : Ideal.ofBits .f32 4286578688#32 = ⊥ := by simp [Ideal.ofBits, Ideal.ieee]

/-- Predictions less a number for each row. -/
theorem lowered_at (x : FVec Ideal S1024x100000 .f32) (g : FVec Ideal S1024 .f32) (i : Fin 1024) (k : Fin 100000) :
    subf x (broadcastInDim S1024x100000 ![0, 1] bcast_S1024x1_S1024x100000_0_1
      (broadcastInDim S1024x1 ![0] bcast_S1024_S1024x1_0
        (maximumf (broadcastInDim S1024 ![] bcast_S_S1024 (constant S_ .f32 0xFF800000#32)) g))) (ix2 i k)
      = (x (ix2 i k) : EReal) - max (Ideal.ofBits .f32 0xFF800000#32) (g (ix1 i)) := by
  pointwise

theorem shifted_at (x : FVec Ideal S1024x100000 .f32) (i : Fin 1024) (M : ℝ) (hM : rowMax x (ix1 i) = (M : EReal)) (k : Fin 100000) :
    shifted x (ix2 i k) = (x (ix2 i k) : EReal) - (M : EReal) := by
  have h : max (Ideal.ofBits .f32 0xFF800000#32) (M : EReal) = (M : EReal) := by rw [botWord]; exact max_eq_right bot_le
  unfold shifted
  rw [lowered_at x (rowMax x) i k, hM, h]

theorem logp_at (s : FVec Ideal S1024x100000 .f32) (i : Fin 1024) (k : Fin 100000) :
    logp s (ix2 i k) = (s (ix2 i k) : EReal) - Ideal.log (∑ n : Fin 100000, Ideal.exp (s (ix2 i n))) := by
  pointwise [logp]

/-- The log-probabilities of real predictions. -/
theorem logp_shifted_at (x : FVec Ideal S1024x100000 .f32) (hx : ∀ j, (x j : EReal) ≠ ⊤ ∧ (x j : EReal) ≠ ⊥)
    (i : Fin 1024) (y : Fin 100000 → ℝ) (hy : ∀ k, x (ix2 i k) = ((y k : ℝ) : EReal)) (k : Fin 100000) :
    logp (shifted x) (ix2 i k) = ((y k - Real.log (∑ n, Real.exp (y n)) : ℝ) : EReal) := by
  obtain ⟨M, hM⟩ := rowMax_real x hx i
  have hs : ∀ k, shifted x (ix2 i k) = ((y k - M : ℝ) : EReal) := fun k => by
    rw [shifted_at x i M hM k, hy]
    rfl
  rw [logp_at, hs]
  simp only [hs]
  exact LossMath.log_softmax y M k

theorem one_word : Ideal.ofBits .f32 0x3F800000#32 = ((1 : ℝ) : EReal) := by
  simp [Ideal.ofBits, Ideal.ieee, -EReal.coe_mul]; norm_num

theorem ten_word : Ideal.ofBits .f32 0x41200000#32 = ((10 : ℝ) : EReal) := by
  simp [Ideal.ofBits, Ideal.ieee, -EReal.coe_mul]; norm_num

/-- The loss, of a row's log-probabilities. -/
theorem loss_at (l : FVec Ideal S1024x100000 .f32) (p : FVec Ideal S1024x1 .f32) (i : Fin 1024) :
    loss l p (ix1 i) = ((9/10 : ℝ) : EReal) * -(p (ix2 i 0) : EReal)
      + ((1/10 : ℝ) : EReal) * -Ideal.div (∑ k : Fin 100000, l (ix2 i k)) ((100000 : ℝ) : EReal) := by
  have h9 : (Ideal.ofBits .f32 0x3F800000#32 - Ideal.div (Ideal.ofBits .f32 0x3F800000#32) (Ideal.ofBits .f32 0x41200000#32) : EReal)
      = ((9/10 : ℝ) : EReal) := by
    rw [one_word, ten_word, Ideal.div_coe (by norm_num), ← EReal.coe_mul, ← EReal.coe_sub]
    norm_num
  have h1 : (Ideal.div (Ideal.ofBits .f32 0x3F800000#32) (Ideal.ofBits .f32 0x41200000#32) : EReal) = ((1/10 : ℝ) : EReal) := by
    rw [one_word, ten_word, Ideal.div_coe (by norm_num), ← EReal.coe_mul]
    norm_num
  pointwise [loss, tenth]
  rw [Pure.hundredThousand]
  exact congrArg₂ (fun a b : EReal => a * -(p (ix2 i 0) : EReal)
    + b * -Ideal.div (∑ k : Fin 100000, l (ix2 i k)) ((100000 : ℝ) : EReal)) h9 h1

/-- The reference's loss of a row is the kernel's. -/
theorem losses_at (x : FVec Ideal S1024x100000 .f32) (tg : IVec S1024 32)
    (hx : ∀ j, (x j : EReal) ≠ ⊤ ∧ (x j : EReal) ≠ ⊥) (i : Fin 1024) (ht : (tg (ix1 i)).toNat < 100000) :
    losses x tg (ix1 i) = Sums.rowLoss x (Result.column tg) i := by
  have hy : ∀ k, x (ix2 i k) = (((x (ix2 i k) : EReal).toReal : ℝ) : EReal) :=
    fun k => (EReal.coe_toReal (hx _).1 (hx _).2).symm
  generalize hyd : (fun k : Fin 100000 => (x (ix2 i k) : EReal).toReal) = y
  have hy : ∀ k, x (ix2 i k) = ((y k : ℝ) : EReal) := fun k => (hy k).trans (congrArg (fun f : Fin 100000 → ℝ => ((f k : ℝ) : EReal)) hyd)
  unfold losses
  rw [loss_at, picked_at _ tg i ht]
  simp only [logp_shifted_at x hx i y hy]
  rw [LossMath.loss_of_logp y _ ⟨_, ht⟩, LossMath.rowLoss_real x (Result.column tg) i y hy ⟨_, ht⟩ rfl]

end Cert.Proof.Ref

end
-- ==== Proof.PreRead.lean ====
module

public import proofs.«01_k».proof.Proof.Gen.Pre_pre
public import proofs.«01_k».proof.Proof.RefWords
public import Idealize.ShloMosaic.Lib.ReduceAll

@[expose] public section

/-!
The precondition, read: the predictions are real numbers, and the targets are columns.
-/

noncomputable section

namespace Cert.Proof.Pre

open Cert.Pre_pre Cert.Pre_pre.Facts
open Idealize.ShloMosaic

instance : Subsingleton S_.Idx := ⟨fun a b => funext fun i => i.elim0⟩

theorem top_eq : Ideal.ofBits .f32 0x7F800000#32 = ⊤ := by simp [Ideal.ofBits, Ideal.ieee]

/-- A number whose absolute value is below +∞ is neither infinity. -/
theorem real_of_abs_lt (x : EReal) (h : Ideal.cmp .olt (max x (-x)) ⊤ = 1#1) : x ≠ ⊤ ∧ x ≠ ⊥ := by
  have h : max x (-x) < ⊤ := (WordCmp.ofBool_decide_eq_one_iff _).mp h
  constructor
  · rintro rfl
    simp at h
  · rintro rfl
    simp at h

/-- The precondition, read. -/
theorem read (x : FVec Ideal S1024x100000 .f32) (t : IVec S1024 32) (h : fn x t = fun _ => 1#1) :
    (∀ j, (x j : EReal) ≠ ⊤ ∧ (x j : EReal) ≠ ⊥) ∧ ∀ j, (t j).toNat < 100000 := by
  have h0 := congrFun h ix0
  obtain ⟨hx, ht⟩ := IntOp.andi_eq_one.mp h0
  constructor
  · intro j
    have hj := Host.reduce_andi_all _ _ _ _ ix0 hx j
    rw [← top_eq] at *
    exact real_of_abs_lt _ hj
  · intro j
    have hj := Host.reduce_andi_all _ _ _ _ ix0 ht j
    obtain ⟨h1, h2⟩ := IntOp.andi_eq_one.mp hj
    exact RefWords.lt_of_signed _ h1 h2

end Cert.Proof.Pre

end
-- ==== Proof.Agree.lean ====
module

public import proofs.«01_k».proof.Defs
public import proofs.«01_k».proof.Proof.RefOrder
public import proofs.«01_k».proof.Proof.RefLoss
public import proofs.«01_k».proof.Proof.PreRead
public import Idealize.ShloMosaic.Lib.Quiescent

@[expose] public section

/-!
The reference leaves its arguments and its counters, and where the predictions are real and the targets are columns its
result is the kernel's.
-/

set_option maxRecDepth 16384

noncomputable section

namespace Cert.Proof.Agree

open Idealize.ShloMosaic Idealize.SL.Sem

/-- The mean of the reference's first 512 losses, of arguments the precondition holds of. -/
theorem mean_eq (x : FVec Ideal Cert.ReferenceIdeal.S1024x100000 .f32) (tg : IVec Cert.ReferenceIdeal.S1024 32)
    (h : Cert.Pre_pre.fn x tg = fun _ => 1#1) :
    Ref.mean (Ref.losses x tg) (Ref.order (Ref.losses x tg)) ix0
      = Ideal.div (∑ i ∈ TopSum.firsts (Sums.rowLoss x (Result.column tg)) 512, Sums.rowLoss x (Result.column tg) i) ((512 : ℝ) : EReal) := by
  obtain ⟨hx, ht⟩ := Pre.read x tg h
  have hrow : Ref.row (Ref.losses x tg) = Sums.rowLoss x (Result.column tg) :=
    funext fun i => Ref.losses_at x tg hx i (ht (ix1 i))
  rw [Ref.mean_order, hrow]

open Idealize.ShloMosaic.TcCoe in
/-- The kernel's result. -/
abbrev out (m : (ℓ : Loc Cert.KernelIdeal.nD Cert.KernelIdeal.τ Cert.KernelIdeal.sig) → Buf (Elt Ideal) ℓ)
    (c : Dev Cert.KernelIdeal.nD) : Buf (Elt Ideal) ((c.tc : Thread Cert.KernelIdeal.nD Cert.KernelIdeal.τ).loc Cert.KernelIdeal.main_v0) :=
  Cert.KernelIdeal.Gen.V5 m (Run.outs m) c Cert.KernelIdeal.main_v0

/-- The two programs' results, of the same arguments. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : Cert.Pre_pre.fn (F := Ideal) (Result.arg0 m c) (Result.arg1 m c) = fun _ => 1#1)
    (h0 : m' ((c.tc : Thread Cert.ReferenceIdeal.nD Cert.ReferenceIdeal.τ).loc Cert.ReferenceIdeal.main_arg0) = Result.arg0 m c)
    (h1 : m' ((c.tc : Thread Cert.ReferenceIdeal.nD Cert.ReferenceIdeal.τ).loc Cert.ReferenceIdeal.main_arg1) = Result.arg1 m c) :
    Cert.ReferenceIdeal.Value.res_main_v29 m' c
      = out m c := by
  refine Eq.trans ?_ (Result.result_at m c).symm
  rw [Ref.result_eq, h0, h1]
  funext j
  obtain rfl : j = ix0 := funext fun a => a.elim0
  exact mean_eq _ _ h

/-- The reference ends, its arguments unchanged, every counter at zero. -/
theorem reference_frame : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- The kernel's results are the reference's. -/
theorem algebraic : Cert.algebraic_KernelIdeal_ReferenceIdeal_pre_pre (hKernelIdeal := Cert.KernelIdeal.Gen.facts)
    (hReferenceIdeal := Cert.ReferenceIdeal.Gen.facts) (hPre_pre := Cert.Pre_pre.Gen.facts) := fun m g m' g' hp ha =>
  ⟨fun c => out m c,
    (θ_run _ _ _).mono (fun r h c => ⟨(h.1 c).2.2, (h.1 c).1, (h.1 c).2.1⟩) (Run.run m g),
    (θ_run _ _ _).mono (fun r h c => ⟨(h c).1.trans (result_eq m m' c (hp c) (ha c).1 (ha c).2), (h c).2⟩)
      (Cert.ReferenceIdeal.Value.run m' g')⟩

end Cert.Proof.Agree

end
-- ==== Proof.lean ====
module

public import proofs.«01_k».proof.Defs
public import proofs.«01_k».proof.Proof.KernelFrame
public import proofs.«01_k».proof.Proof.Agree

@[expose] public section

/-!
The certificate: the kernel as printed, the kernel with its two weights named, and the reference each end with their
arguments unchanged and every counter at zero; the two named weights stand for the words they replace; and the kernel's
result is the reference's.
-/

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_pre.Gen.facts,
    Frames.kernel_frame,
    fun m g _ => Run.frame m g,
    fun m g _ => Run.frame m g,
    Agree.reference_frame,
    fun m g _ => Agree.reference_frame m g trivial,
    ⟨IdealRules.named_const.statement Cert.KernelIdeal.κ "nll_w" .f32 0x3F666666#32 _ rfl,
      IdealRules.named_const.statement Cert.KernelIdeal.κ "smooth_w" .f32 0x3DCCCCCD#32 _ rfl⟩,
    Agree.algebraic⟩

end Cert.Proof

end
